-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S2x256x8192 : Shape := ⟨3, ![2, 256, 8192]⟩
abbrev S1x8x128 : Shape := ⟨3, ![1, 8, 128]⟩
abbrev S16x128 : Shape := ⟨2, ![16, 128]⟩
abbrev S15 : Shape := ⟨1, ![15]⟩
abbrev S2x1 : Shape := ⟨2, ![2, 1]⟩
abbrev S1x1 : Shape := ⟨2, ![1, 1]⟩
abbrev S_ : Shape := ⟨0, ![]⟩
abbrev S1x256x8192 : Shape := ⟨3, ![1, 256, 8192]⟩
abbrev S256x256 : Shape := ⟨2, ![256, 256]⟩
abbrev S1x256x256 : Shape := ⟨3, ![1, 256, 256]⟩
abbrev S1 : Shape := ⟨1, ![1]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .bf16⟩
  | .local _ .vmem, ⟨3, _⟩ => ⟨S16x256x256, .bf16⟩
  | .local _ .vmem, ⟨4, _⟩ => ⟨S2x256x8192, .f32⟩
  | .local _ .vmem, ⟨5, _⟩ => ⟨S1x8x128, .bf16⟩
  | .local _ .vmem, ⟨6, _⟩ => ⟨S16x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let v4 : BitVec 32 := Scalar.subi v3 c0_i32
  let c16_i32_1 : BitVec 32 := 16#32
  let v5 : BitVec 32 := Scalar.remsi v4 c16_i32_1
  let c256_i32 : BitVec 32 := 256#32
  let v6 : BitVec 32 := Scalar.muli v5 c256_i32
  let c0_i32_2 : BitVec 32 := 0#32
  let v7 : BitVec 32 := Scalar.addi v6 c0_i32_2
  let c0_i32_8 : BitVec 32 := 0#32
  ![v7.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_23 : BitVec 32 := 256#32
  let v29 : BitVec 32 := Scalar.muli v2 c256_i32_23
  let v30 : Index := Scalar.indexCast v29
  let c0_24 : Index := 0#32
  ![v30.toNat, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v32 : Index := Scalar.indexCast v2
  let c0_25 : Index := 0#32
  let c0_26 : Index := 0#32
  ![v32.toNat, 0, 0]
def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v37 : BitVec 32 := Scalar.addi v2 c1_i32_27
  let c16_i32_28 : BitVec 32 := 16#32
  let v38 : BitVec 32 := Scalar.remsi v37 c16_i32_28
  let c1_i32_30 : BitVec 32 := 1#32
  let v39 : BitVec 32 := Scalar.muli v38 c1_i32_30
  let v40 : BitVec 32 := Scalar.addi c0_i32_31 v39
  v40.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v41 : BitVec 32 := Scalar.addi v2 c2_i32
  let c16_i32_32 : BitVec 32 := 16#32
  let v42 : BitVec 32 := Scalar.remsi v41 c16_i32_32
  let c1_i32_34 : BitVec 32 := 1#32
  let v43 : BitVec 32 := Scalar.muli v42 c1_i32_34
  let v44 : BitVec 32 := Scalar.addi c0_i32_35 v43
  v44.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v45 : BitVec 32 := Scalar.addi v2 c3_i32
  let c16_i32_36 : BitVec 32 := 16#32
  let v46 : BitVec 32 := Scalar.remsi v45 c16_i32_36
  let c1_i32_38 : BitVec 32 := 1#32
  let v47 : BitVec 32 := Scalar.muli v46 c1_i32_38
  let v48 : BitVec 32 := Scalar.addi c0_i32_39 v47
  v48.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v49 : BitVec 32 := Scalar.addi v2 c4_i32
  let c16_i32_40 : BitVec 32 := 16#32
  let v50 : BitVec 32 := Scalar.remsi v49 c16_i32_40
  let c1_i32_42 : BitVec 32 := 1#32
  let v51 : BitVec 32 := Scalar.muli v50 c1_i32_42
  let v52 : BitVec 32 := Scalar.addi c0_i32_43 v51
  v52.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v53 : BitVec 32 := Scalar.addi v2 c5_i32
  let c16_i32_44 : BitVec 32 := 16#32
  let v54 : BitVec 32 := Scalar.remsi v53 c16_i32_44
  let c1_i32_46 : BitVec 32 := 1#32
  let v55 : BitVec 32 := Scalar.muli v54 c1_i32_46
  let v56 : BitVec 32 := Scalar.addi c0_i32_47 v55
  v56.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v57 : BitVec 32 := Scalar.addi v2 c6_i32
  let c16_i32_48 : BitVec 32 := 16#32
  let v58 : BitVec 32 := Scalar.remsi v57 c16_i32_48
  let c1_i32_50 : BitVec 32 := 1#32
  let v59 : BitVec 32 := Scalar.muli v58 c1_i32_50
  let v60 : BitVec 32 := Scalar.addi c0_i32_51 v59
  v60.toNat
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v61 : BitVec 32 := Scalar.addi v2 c7_i32
  let c16_i32_52 : BitVec 32 := 16#32
  let v62 : BitVec 32 := Scalar.remsi v61 c16_i32_52
  let c1_i32_54 : BitVec 32 := 1#32
  let v63 : BitVec 32 := Scalar.muli v62 c1_i32_54
  let v64 : BitVec 32 := Scalar.addi c0_i32_55 v63
  v64.toNat
def k0_dev8 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v65 : BitVec 32 := Scalar.addi v2 c8_i32
  let c16_i32_56 : BitVec 32 := 16#32
  let v66 : BitVec 32 := Scalar.remsi v65 c16_i32_56
  let c1_i32_58 : BitVec 32 := 1#32
  let v67 : BitVec 32 := Scalar.muli v66 c1_i32_58
  let v68 : BitVec 32 := Scalar.addi c0_i32_59 v67
  v68.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v69 : BitVec 32 := Scalar.addi v2 c9_i32
  let c16_i32_60 : BitVec 32 := 16#32
  let v70 : BitVec 32 := Scalar.remsi v69 c16_i32_60
  let c1_i32_62 : BitVec 32 := 1#32
  let v71 : BitVec 32 := Scalar.muli v70 c1_i32_62
  let v72 : BitVec 32 := Scalar.addi c0_i32_63 v71
  v72.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v73 : BitVec 32 := Scalar.addi v2 c10_i32
  let c16_i32_64 : BitVec 32 := 16#32
  let v74 : BitVec 32 := Scalar.remsi v73 c16_i32_64
  let c1_i32_66 : BitVec 32 := 1#32
  let v75 : BitVec 32 := Scalar.muli v74 c1_i32_66
  let v76 : BitVec 32 := Scalar.addi c0_i32_67 v75
  v76.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v77 : BitVec 32 := Scalar.addi v2 c11_i32
  let c16_i32_68 : BitVec 32 := 16#32
  let v78 : BitVec 32 := Scalar.remsi v77 c16_i32_68
  let c1_i32_70 : BitVec 32 := 1#32
  let v79 : BitVec 32 := Scalar.muli v78 c1_i32_70
  let v80 : BitVec 32 := Scalar.addi c0_i32_71 v79
  v80.toNat
def k0_dev12 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v81 : BitVec 32 := Scalar.addi v2 c12_i32
  let c16_i32_72 : BitVec 32 := 16#32
  let v82 : BitVec 32 := Scalar.remsi v81 c16_i32_72
  let c1_i32_74 : BitVec 32 := 1#32
  let v83 : BitVec 32 := Scalar.muli v82 c1_i32_74
  let v84 : BitVec 32 := Scalar.addi c0_i32_75 v83
  v84.toNat
def k0_dev13 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v85 : BitVec 32 := Scalar.addi v2 c13_i32
  let c16_i32_76 : BitVec 32 := 16#32
  let v86 : BitVec 32 := Scalar.remsi v85 c16_i32_76
  let c1_i32_78 : BitVec 32 := 1#32
  let v87 : BitVec 32 := Scalar.muli v86 c1_i32_78
  let v88 : BitVec 32 := Scalar.addi c0_i32_79 v87
  v88.toNat
def k0_dev14 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v89 : BitVec 32 := Scalar.addi v2 c14_i32
  let c16_i32_80 : BitVec 32 := 16#32
  let v90 : BitVec 32 := Scalar.remsi v89 c16_i32_80
  let c1_i32_82 : BitVec 32 := 1#32
  let v91 : BitVec 32 := Scalar.muli v90 c1_i32_82
  let v92 : BitVec 32 := Scalar.addi c0_i32_83 v91
  v92.toNat
def k0_dev15 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v93 : BitVec 32 := Scalar.addi v2 c15_i32
  let c16_i32_84 : BitVec 32 := 16#32
  let v94 : BitVec 32 := Scalar.remsi v93 c16_i32_84
  let c1_i32_86 : BitVec 32 := 1#32
  let v95 : BitVec 32 := Scalar.muli v94 c1_i32_86
  let v96 : BitVec 32 := Scalar.addi c0_i32_87 v95
  v96.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_96 : BitVec 32 := 0#32
  let c0_i32_97 : BitVec 32 := 0#32
  ![v2.toNat, 0, 0]
def k0_off5 (d0 : Dev nD) (c1_i32_89 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v97 : BitVec 32 := Scalar.addi v2 c1_i32_89
  let c16_i32_90 : BitVec 32 := 16#32
  let v98 : BitVec 32 := Scalar.remsi v97 c16_i32_90
  let c256_i32_91 : BitVec 32 := 256#32
  let v99 : BitVec 32 := Scalar.muli v98 c256_i32_91
  let c0_i32_98 : BitVec 32 := 0#32
  ![v99.toNat, 0]
def k0_dev16 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_89 : BitVec 32 := 1#32
  let v97 : BitVec 32 := Scalar.addi v2 c1_i32_89
  let c16_i32_90 : BitVec 32 := 16#32
  let v98 : BitVec 32 := Scalar.remsi v97 c16_i32_90
  let c1_i32_94 : BitVec 32 := 1#32
  let v100 : BitVec 32 := Scalar.muli v98 c1_i32_94
  let v101 : BitVec 32 := Scalar.addi c0_i32_95 v100
  v101.toNat
def k0_dev17 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_99 : BitVec 32 := 15#32
  let v109 : BitVec 32 := Scalar.addi v2 c15_i32_99
  let c16_i32_100 : BitVec 32 := 16#32
  let v110 : BitVec 32 := Scalar.remsi v109 c16_i32_100
  let c1_i32_104 : BitVec 32 := 1#32
  let v112 : BitVec 32 := Scalar.muli v110 c1_i32_104
  let v113 : BitVec 32 := Scalar.addi c0_i32_105 v112
  v113.toNat
def k0_dev18 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_109 : BitVec 32 := 2#32
  let v121 : BitVec 32 := Scalar.addi v2 c2_i32_109
  let c16_i32_110 : BitVec 32 := 16#32
  let v122 : BitVec 32 := Scalar.remsi v121 c16_i32_110
  let c1_i32_114 : BitVec 32 := 1#32
  let v124 : BitVec 32 := Scalar.muli v122 c1_i32_114
  let v125 : BitVec 32 := Scalar.addi c0_i32_115 v124
  v125.toNat
def k0_dev19 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_119 : BitVec 32 := 14#32
  let v133 : BitVec 32 := Scalar.addi v2 c14_i32_119
  let c16_i32_120 : BitVec 32 := 16#32
  let v134 : BitVec 32 := Scalar.remsi v133 c16_i32_120
  let c1_i32_124 : BitVec 32 := 1#32
  let v136 : BitVec 32 := Scalar.muli v134 c1_i32_124
  let v137 : BitVec 32 := Scalar.addi c0_i32_125 v136
  v137.toNat
def k0_dev20 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_129 : BitVec 32 := 3#32
  let v145 : BitVec 32 := Scalar.addi v2 c3_i32_129
  let c16_i32_130 : BitVec 32 := 16#32
  let v146 : BitVec 32 := Scalar.remsi v145 c16_i32_130
  let c1_i32_134 : BitVec 32 := 1#32
  let v148 : BitVec 32 := Scalar.muli v146 c1_i32_134
  let v149 : BitVec 32 := Scalar.addi c0_i32_135 v148
  v149.toNat
def k0_dev21 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_139 : BitVec 32 := 13#32
  let v157 : BitVec 32 := Scalar.addi v2 c13_i32_139
  let c16_i32_140 : BitVec 32 := 16#32
  let v158 : BitVec 32 := Scalar.remsi v157 c16_i32_140
  let c1_i32_144 : BitVec 32 := 1#32
  let v160 : BitVec 32 := Scalar.muli v158 c1_i32_144
  let v161 : BitVec 32 := Scalar.addi c0_i32_145 v160
  v161.toNat
def k0_dev22 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_149 : BitVec 32 := 4#32
  let v169 : BitVec 32 := Scalar.addi v2 c4_i32_149
  let c16_i32_150 : BitVec 32 := 16#32
  let v170 : BitVec 32 := Scalar.remsi v169 c16_i32_150
  let c1_i32_154 : BitVec 32 := 1#32
  let v172 : BitVec 32 := Scalar.muli v170 c1_i32_154
  let v173 : BitVec 32 := Scalar.addi c0_i32_155 v172
  v173.toNat
def k0_dev23 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_159 : BitVec 32 := 12#32
  let v181 : BitVec 32 := Scalar.addi v2 c12_i32_159
  let c16_i32_160 : BitVec 32 := 16#32
  let v182 : BitVec 32 := Scalar.remsi v181 c16_i32_160
  let c1_i32_164 : BitVec 32 := 1#32
  let v184 : BitVec 32 := Scalar.muli v182 c1_i32_164
  let v185 : BitVec 32 := Scalar.addi c0_i32_165 v184
  v185.toNat
def k0_dev24 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_169 : BitVec 32 := 5#32
  let v193 : BitVec 32 := Scalar.addi v2 c5_i32_169
  let c16_i32_170 : BitVec 32 := 16#32
  let v194 : BitVec 32 := Scalar.remsi v193 c16_i32_170
  let c1_i32_174 : BitVec 32 := 1#32
  let v196 : BitVec 32 := Scalar.muli v194 c1_i32_174
  let v197 : BitVec 32 := Scalar.addi c0_i32_175 v196
  v197.toNat
def k0_dev25 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_179 : BitVec 32 := 11#32
  let v205 : BitVec 32 := Scalar.addi v2 c11_i32_179
  let c16_i32_180 : BitVec 32 := 16#32
  let v206 : BitVec 32 := Scalar.remsi v205 c16_i32_180
  let c1_i32_184 : BitVec 32 := 1#32
  let v208 : BitVec 32 := Scalar.muli v206 c1_i32_184
  let v209 : BitVec 32 := Scalar.addi c0_i32_185 v208
  v209.toNat
def k0_dev26 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_189 : BitVec 32 := 6#32
  let v217 : BitVec 32 := Scalar.addi v2 c6_i32_189
  let c16_i32_190 : BitVec 32 := 16#32
  let v218 : BitVec 32 := Scalar.remsi v217 c16_i32_190
  let c1_i32_194 : BitVec 32 := 1#32
  let v220 : BitVec 32 := Scalar.muli v218 c1_i32_194
  let v221 : BitVec 32 := Scalar.addi c0_i32_195 v220
  v221.toNat
def k0_dev27 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_199 : BitVec 32 := 10#32
  let v229 : BitVec 32 := Scalar.addi v2 c10_i32_199
  let c16_i32_200 : BitVec 32 := 16#32
  let v230 : BitVec 32 := Scalar.remsi v229 c16_i32_200
  let c1_i32_204 : BitVec 32 := 1#32
  let v232 : BitVec 32 := Scalar.muli v230 c1_i32_204
  let v233 : BitVec 32 := Scalar.addi c0_i32_205 v232
  v233.toNat
def k0_dev28 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_209 : BitVec 32 := 7#32
  let v241 : BitVec 32 := Scalar.addi v2 c7_i32_209
  let c16_i32_210 : BitVec 32 := 16#32
  let v242 : BitVec 32 := Scalar.remsi v241 c16_i32_210
  let c1_i32_214 : BitVec 32 := 1#32
  let v244 : BitVec 32 := Scalar.muli v242 c1_i32_214
  let v245 : BitVec 32 := Scalar.addi c0_i32_215 v244
  v245.toNat
def k0_dev29 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_219 : BitVec 32 := 9#32
  let v253 : BitVec 32 := Scalar.addi v2 c9_i32_219
  let c16_i32_220 : BitVec 32 := 16#32
  let v254 : BitVec 32 := Scalar.remsi v253 c16_i32_220
  let c1_i32_224 : BitVec 32 := 1#32
  let v256 : BitVec 32 := Scalar.muli v254 c1_i32_224
  let v257 : BitVec 32 := Scalar.addi c0_i32_225 v256
  v257.toNat
def k0_dev30 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_229 : BitVec 32 := 8#32
  let v265 : BitVec 32 := Scalar.addi v2 c8_i32_229
  let c16_i32_230 : BitVec 32 := 16#32
  let v266 : BitVec 32 := Scalar.remsi v265 c16_i32_230
  let c1_i32_234 : BitVec 32 := 1#32
  let v268 : BitVec 32 := Scalar.muli v266 c1_i32_234
  let v269 : BitVec 32 := Scalar.addi c0_i32_235 v268
  v269.toNat
def k0_off6 (d0 : Dev nD) (c0_i32_246 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_245 : BitVec 32 := 16#32
  let v282 : BitVec 32 := Scalar.addi v2 c16_i32_245
  let v283 : BitVec 32 := Scalar.subi v282 c0_i32_246
  let c16_i32_247 : BitVec 32 := 16#32
  let v284 : BitVec 32 := Scalar.remsi v283 c16_i32_247
  let v285 : Index := Scalar.indexCast v284
  let c0_248 : Index := 0#32
  let c0_249 : Index := 0#32
  ![v285.toNat, 0, 0]
def k0_off7 (d0 : Dev nD) (c1_i32_267 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_266 : BitVec 32 := 16#32
  let v303 : BitVec 32 := Scalar.addi v2 c16_i32_266
  let v304 : BitVec 32 := Scalar.subi v303 c1_i32_267
  let c16_i32_268 : BitVec 32 := 16#32
  let v305 : BitVec 32 := Scalar.remsi v304 c16_i32_268
  let c0_i32_273 : BitVec 32 := 0#32
  let c0_i32_274 : BitVec 32 := 0#32
  ![v305.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v953 : Index := Scalar.indexCast v2
  let c0_952 : Index := 0#32
  ![v953.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_959 : BitVec 32 := 0#32
  ![v2.toNat, 0]
def k0_dev31 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_953 : BitVec 32 := 1#32
  let v957 : BitVec 32 := Scalar.addi v2 c1_i32_953
  let c16_i32_954 : BitVec 32 := 16#32
  let v958 : BitVec 32 := Scalar.remsi v957 c16_i32_954
  let c1_i32_957 : BitVec 32 := 1#32
  let v959 : BitVec 32 := Scalar.muli v958 c1_i32_957
  let v960 : BitVec 32 := Scalar.addi c0_i32_958 v959
  v960.toNat
def k0_dev32 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_961 : BitVec 32 := 2#32
  let v967 : BitVec 32 := Scalar.addi v2 c2_i32_961
  let c16_i32_962 : BitVec 32 := 16#32
  let v968 : BitVec 32 := Scalar.remsi v967 c16_i32_962
  let c1_i32_965 : BitVec 32 := 1#32
  let v969 : BitVec 32 := Scalar.muli v968 c1_i32_965
  let v970 : BitVec 32 := Scalar.addi c0_i32_966 v969
  v970.toNat
def k0_dev33 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_969 : BitVec 32 := 3#32
  let v977 : BitVec 32 := Scalar.addi v2 c3_i32_969
  let c16_i32_970 : BitVec 32 := 16#32
  let v978 : BitVec 32 := Scalar.remsi v977 c16_i32_970
  let c1_i32_973 : BitVec 32 := 1#32
  let v979 : BitVec 32 := Scalar.muli v978 c1_i32_973
  let v980 : BitVec 32 := Scalar.addi c0_i32_974 v979
  v980.toNat
def k0_dev34 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_977 : BitVec 32 := 4#32
  let v987 : BitVec 32 := Scalar.addi v2 c4_i32_977
  let c16_i32_978 : BitVec 32 := 16#32
  let v988 : BitVec 32 := Scalar.remsi v987 c16_i32_978
  let c1_i32_981 : BitVec 32 := 1#32
  let v989 : BitVec 32 := Scalar.muli v988 c1_i32_981
  let v990 : BitVec 32 := Scalar.addi c0_i32_982 v989
  v990.toNat
def k0_dev35 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_985 : BitVec 32 := 5#32
  let v997 : BitVec 32 := Scalar.addi v2 c5_i32_985
  let c16_i32_986 : BitVec 32 := 16#32
  let v998 : BitVec 32 := Scalar.remsi v997 c16_i32_986
  let c1_i32_989 : BitVec 32 := 1#32
  let v999 : BitVec 32 := Scalar.muli v998 c1_i32_989
  let v1000 : BitVec 32 := Scalar.addi c0_i32_990 v999
  v1000.toNat
def k0_dev36 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_993 : BitVec 32 := 6#32
  let v1007 : BitVec 32 := Scalar.addi v2 c6_i32_993
  let c16_i32_994 : BitVec 32 := 16#32
  let v1008 : BitVec 32 := Scalar.remsi v1007 c16_i32_994
  let c1_i32_997 : BitVec 32 := 1#32
  let v1009 : BitVec 32 := Scalar.muli v1008 c1_i32_997
  let v1010 : BitVec 32 := Scalar.addi c0_i32_998 v1009
  v1010.toNat
def k0_dev37 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1001 : BitVec 32 := 7#32
  let v1017 : BitVec 32 := Scalar.addi v2 c7_i32_1001
  let c16_i32_1002 : BitVec 32 := 16#32
  let v1018 : BitVec 32 := Scalar.remsi v1017 c16_i32_1002
  let c1_i32_1005 : BitVec 32 := 1#32
  let v1019 : BitVec 32 := Scalar.muli v1018 c1_i32_1005
  let v1020 : BitVec 32 := Scalar.addi c0_i32_1006 v1019
  v1020.toNat
def k0_dev38 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1009 : BitVec 32 := 8#32
  let v1027 : BitVec 32 := Scalar.addi v2 c8_i32_1009
  let c16_i32_1010 : BitVec 32 := 16#32
  let v1028 : BitVec 32 := Scalar.remsi v1027 c16_i32_1010
  let c1_i32_1013 : BitVec 32 := 1#32
  let v1029 : BitVec 32 := Scalar.muli v1028 c1_i32_1013
  let v1030 : BitVec 32 := Scalar.addi c0_i32_1014 v1029
  v1030.toNat
def k0_dev39 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1017 : BitVec 32 := 9#32
  let v1037 : BitVec 32 := Scalar.addi v2 c9_i32_1017
  let c16_i32_1018 : BitVec 32 := 16#32
  let v1038 : BitVec 32 := Scalar.remsi v1037 c16_i32_1018
  let c1_i32_1021 : BitVec 32 := 1#32
  let v1039 : BitVec 32 := Scalar.muli v1038 c1_i32_1021
  let v1040 : BitVec 32 := Scalar.addi c0_i32_1022 v1039
  v1040.toNat
def k0_dev40 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1025 : BitVec 32 := 10#32
  let v1047 : BitVec 32 := Scalar.addi v2 c10_i32_1025
  let c16_i32_1026 : BitVec 32 := 16#32
  let v1048 : BitVec 32 := Scalar.remsi v1047 c16_i32_1026
  let c1_i32_1029 : BitVec 32 := 1#32
  let v1049 : BitVec 32 := Scalar.muli v1048 c1_i32_1029
  let v1050 : BitVec 32 := Scalar.addi c0_i32_1030 v1049
  v1050.toNat
def k0_dev41 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1033 : BitVec 32 := 11#32
  let v1057 : BitVec 32 := Scalar.addi v2 c11_i32_1033
  let c16_i32_1034 : BitVec 32 := 16#32
  let v1058 : BitVec 32 := Scalar.remsi v1057 c16_i32_1034
  let c1_i32_1037 : BitVec 32 := 1#32
  let v1059 : BitVec 32 := Scalar.muli v1058 c1_i32_1037
  let v1060 : BitVec 32 := Scalar.addi c0_i32_1038 v1059
  v1060.toNat
def k0_dev42 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1041 : BitVec 32 := 12#32
  let v1067 : BitVec 32 := Scalar.addi v2 c12_i32_1041
  let c16_i32_1042 : BitVec 32 := 16#32
  let v1068 : BitVec 32 := Scalar.remsi v1067 c16_i32_1042
  let c1_i32_1045 : BitVec 32 := 1#32
  let v1069 : BitVec 32 := Scalar.muli v1068 c1_i32_1045
  let v1070 : BitVec 32 := Scalar.addi c0_i32_1046 v1069
  v1070.toNat
def k0_dev43 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1049 : BitVec 32 := 13#32
  let v1077 : BitVec 32 := Scalar.addi v2 c13_i32_1049
  let c16_i32_1050 : BitVec 32 := 16#32
  let v1078 : BitVec 32 := Scalar.remsi v1077 c16_i32_1050
  let c1_i32_1053 : BitVec 32 := 1#32
  let v1079 : BitVec 32 := Scalar.muli v1078 c1_i32_1053
  let v1080 : BitVec 32 := Scalar.addi c0_i32_1054 v1079
  v1080.toNat
def k0_dev44 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1057 : BitVec 32 := 14#32
  let v1087 : BitVec 32 := Scalar.addi v2 c14_i32_1057
  let c16_i32_1058 : BitVec 32 := 16#32
  let v1088 : BitVec 32 := Scalar.remsi v1087 c16_i32_1058
  let c1_i32_1061 : BitVec 32 := 1#32
  let v1089 : BitVec 32 := Scalar.muli v1088 c1_i32_1061
  let v1090 : BitVec 32 := Scalar.addi c0_i32_1062 v1089
  v1090.toNat
def k0_dev45 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1065 : BitVec 32 := 15#32
  let v1097 : BitVec 32 := Scalar.addi v2 c15_i32_1065
  let c16_i32_1066 : BitVec 32 := 16#32
  let v1098 : BitVec 32 := Scalar.remsi v1097 c16_i32_1066
  let c1_i32_1069 : BitVec 32 := 1#32
  let v1099 : BitVec 32 := Scalar.muli v1098 c1_i32_1069
  let v1100 : BitVec 32 := Scalar.addi c0_i32_1070 v1099
  v1100.toNat
def k0_off10 (d0 : Dev nD) (c1_i32_1077 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1076 : BitVec 32 := 16#32
  let v1110 : BitVec 32 := Scalar.addi v2 c16_i32_1076
  let v1111 : BitVec 32 := Scalar.subi v1110 c1_i32_1077
  let c16_i32_1078 : BitVec 32 := 16#32
  let v1112 : BitVec 32 := Scalar.remsi v1111 c16_i32_1078
  let c0_i32_1083 : BitVec 32 := 0#32
  ![v1112.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Loops.lean ====
module

public import proofs.«01_k».proof.Proof.Gen.KernelIdeal.Skeleton

@[expose] public section

set_option synthInstance.maxSize 4096

/-! The kernel's body, folded back into loops.

The printed body is the unrolled text of four kinds of loops: the barrier's signals, the data
copies, the accumulation over the sixteen blocks, and the maximum's exchange. This module writes
those loops once each, over a position of the loop, and shows the printed body is their sequence. -/

noncomputable section

namespace Cert.KernelIdeal.Gen

open Idealize.ShloMosaic Idealize.SL.Sem

variable {F : FTy → Type} [FloatOps F]

/-- `f 0`, then `f 1`, …, then `f (n - 1)`. -/
def seqF {E : Type → Type} : (n : ℕ) → (Fin n → Prog E PUnit) → Prog E PUnit
  | 0, _ => .ret ⟨⟩
  | n + 1, f => (f 0).bind fun _ => seqF n fun i => f i.succ

/-- The offset, less one, that position `j` of the data exchange is for. -/
def ordD (j : Fin 15) : Fin 15 := ![0, 14, 1, 13, 2, 12, 3, 11, 4, 10, 5, 9, 6, 8, 7] j

/-- The offset the accumulation's step `i` reads. -/
def ordI (i : Fin 16) : Fin 16 := ![0, 1, 15, 2, 14, 3, 13, 4, 12, 5, 11, 6, 10, 7, 9, 8] i

abbrev xR : Memref sig .tc .vmem S4096x256 .f32 := Memref.whole cc0_stg0_0
abbrev wR : Memref sig .tc .hbm S4096x8192 .f32 := Memref.whole main_arg1
abbrev oR : Memref sig .tc .vmem S256x8192 .f32 := Memref.whole cc0_stg1_0
abbrev bR : Memref sig .tc .vmem S4096x256 .bf16 := Memref.whole cc0_scratch0
abbrev gR : Memref sig .tc .vmem S16x256x256 .bf16 := Memref.whole cc0_scratch1
abbrev vR : Memref sig .tc .vmem S2x256x8192 .f32 := Memref.whole cc0_scratch2
abbrev aR : Memref sig .tc .vmem S16x128 .f32 := Memref.whole cc0_scratch4

theorem inbS (r : Fin 15) : ∀ a, (![r.val] : Fin 1 → Nat) a + S1.size a ≤ S15.size a := by
  revert r; decide

theorem inbW (p : Fin 2) : ∀ a, (![p.val, 0] : Fin 2 → Nat) a + S1x1.size a ≤ S2x1.size a := by
  revert p; decide

theorem inbV (p : Fin 2) :
    ∀ a, (![p.val, 0, 0] : Fin 3 → Nat) a + S1x256x8192.size a ≤ S2x256x8192.size a := by
  revert p; decide

/-- The semaphores of an array of fifteen, and of the pair the weight's copies use. -/
def semAt (A : DmaSems sig S15) (r : Fin 15) : DmaSem sig :=
  ((A.slice (Rect.unit (s := S15) ![r.val] S1.size (inbS r))).squeeze S_ squeezes_S1_S_).sem

def wsemAt (p : Fin 2) : DmaSem sig :=
  ((cc0_scratch9.slice (Rect.unit (s := S2x1) ![p.val, 0] S1x1.size (inbW p))).squeeze S_
    squeezes_S1x1_S_).sem

/-- The barrier's semaphore. -/
def barS : Sem sig := (SemArray.scalar (sig.barrier 0 rfl) : Sems sig S_).sem

/-- Slot `p` of the weight's double buffer. -/
def vSlot (p : Fin 2) : Memref sig .tc .vmem S256x8192 .f32 :=
  (vR.slice (Rect.unit (s := S2x256x8192) ![p.val, 0, 0] S1x256x8192.size (inbV p))
    (fun _ => rfl)).squeeze S256x8192 squeezes_S1x256x8192_S256x8192

/-- The weight's rows the accumulation's step for offset `d` reads. -/
def wBlk (c : Dev nD) (d : Fin 16) : Memref sig .tc .hbm S256x8192 .f32 :=
  wR.slice (Rect.unit (s := S4096x8192) (k0_off1 c (BitVec.ofNat 32 d.val)) S256x8192.size
    (k0_off1_inb c d)) (fun _ => rfl)

/-- The rows of the device's own data that go to the device `r + 1` further. -/
def bBlk (c : Dev nD) (r : Fin 15) : Memref sig .tc .vmem S256x256 .bf16 :=
  bR.slice (Rect.unit (s := S4096x256) (k0_off5 c (BitVec.ofNat 32 (1 + r.val))) S256x256.size
    (k0_off5_inb c r)) (fun _ => rfl)

/-- Slot `c` of the gathered data. -/
def gOwn (c : Dev nD) : Memref sig .tc .vmem S256x256 .bf16 :=
  (gR.slice (Rect.unit (s := S16x256x256) (k0_off4 c) S1x256x256.size (k0_off4_inb c))
    (fun _ => rfl)).squeeze S256x256 squeezes_S1x256x256_S256x256

/-- The slot of the gathered data that the device `r + 1` before fills. -/
def gFrom (c : Dev nD) (r : Fin 15) : Memref sig .tc .vmem S256x256 .bf16 :=
  (gR.slice (Rect.unit (s := S16x256x256) (k0_off7 c (BitVec.ofNat 32 (1 + r.val)))
    S1x256x256.size (k0_off7_inb c r)) (fun _ => rfl)).squeeze S256x256 squeezes_S1x256x256_S256x256

/-- The device's own row of the table of maxima, and the row the device `r + 1` before fills. -/
def aOwn (c : Dev nD) : Memref sig .tc .vmem S1x128 .f32 :=
  aR.slice (Rect.unit (s := S16x128) (k0_off9 c) S1x128.size (k0_off9_inb c)) (fun _ => rfl)

def aFrom (c : Dev nD) (r : Fin 15) : Memref sig .tc .vmem S1x128 .f32 :=
  aR.slice (Rect.unit (s := S16x128) (k0_off10 c (BitVec.ofNat 32 (1 + r.val))) S1x128.size
    (k0_off10_inb c r)) (fun _ => rfl)

/-- The devices the three loops of remote operations address. -/
def sigDev (c : Dev nD) : Fin 15 → Dev nD := ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]

def datDev (c : Dev nD) : Fin 15 → Dev nD := ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

def maxDev (c : Dev nD) : Fin 15 → Dev nD := ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]

/-- The copy of a block of the weight into a slot of the double buffer. -/
def fetchW (c : Dev nD) (d : Fin 16) (p : Fin 2) : Prog (TpuEff nD τ sig (Elt F) Λ₀ .tc) PUnit :=
  Prog.lift (.enqueueDma (wBlk c d) (.here (vSlot p)) (.dma (wsemAt p)) (View.wordExact_bits rfl)
    ((View.wordExact_bits rfl).reshape _ _) ⟨Or.inl rfl, trivial⟩)

def waitW (c : Dev nD) (d : Fin 16) (p : Fin 2) : Prog (TpuEff nD τ sig (Elt F) Λ₀ .tc) PUnit :=
  Prog.lift (.waitDma2 (wsemAt p) (wBlk c d) (vSlot p) (View.wordExact_bits rfl)
    ((View.wordExact_bits rfl).reshape _ _))

def signalStep (c : Dev nD) (r : Fin 15) : Prog (TpuEff nD τ sig (Elt F) Λ₀ .tc) PUnit :=
  semSignalWord (sigDev c r) barS 1#32

def sendStep (c : Dev nD) (j : Fin 15) : Prog (TpuEff nD τ sig (Elt F) Λ₀ .tc) PUnit :=
  Prog.lift (.enqueueDma (bBlk c (ordD j))
    (.remote (Dev.tc (datDev c j)) (gOwn c) (.dma (semAt cc0_scratch5 (ordD j))))
    (.dma (semAt cc0_scratch6 (ordD j)))
    ((Memref.isWhole_whole cc0_scratch0).wordExact_slice rfl _ (k0_off5_wordsbf16 c (ordD j)))
    (((Memref.isWhole_whole cc0_scratch1).wordExact_slice rfl _ (k0_off4_wordsbf16 c)).reshape _ _)
    ⟨⟨rfl, Or.inl rfl⟩, trivial⟩)

def recvWait (c : Dev nD) (j : Fin 15) : Prog (TpuEff nD τ sig (Elt F) Λ₀ .tc) PUnit :=
  Prog.lift (.waitDma2 (semAt cc0_scratch6 (ordD j))
    (bR.slice (Rect.unit (s := S4096x256) ![0, 0] S256x256.size inb_S4096x256_S256x256_0_0)
      (fun _ => rfl)) (gFrom c (ordD j))
    ((Memref.isWhole_whole cc0_scratch0).wordExact_slice rfl _ wordsbf16_S4096x256_S256x256_0_0)
    (((Memref.isWhole_whole cc0_scratch1).wordExact_slice rfl _
      (k0_off7_wordsbf16 c (ordD j))).reshape _ _))

def sentWait (c : Dev nD) (j : Fin 15) : Prog (TpuEff nD τ sig (Elt F) Λ₀ .tc) PUnit :=
  Prog.lift (.waitDma2 (semAt cc0_scratch5 (ordD j)) (gOwn c) (bBlk c (ordD j))
    (((Memref.isWhole_whole cc0_scratch1).wordExact_slice rfl _ (k0_off4_wordsbf16 c)).reshape _ _)
    ((Memref.isWhole_whole cc0_scratch0).wordExact_slice rfl _ (k0_off5_wordsbf16 c (ordD j))))

def maxSend (c : Dev nD) (r : Fin 15) : Prog (TpuEff nD τ sig (Elt F) Λ₀ .tc) PUnit :=
  Prog.lift (.enqueueDma (aOwn c)
    (.remote (Dev.tc (maxDev c r)) (aOwn c) (.dma (semAt cc0_scratch7 r)))
    (.dma (semAt cc0_scratch8 r)) (View.wordExact_bits rfl) (View.wordExact_bits rfl)
    ⟨⟨rfl, Or.inl rfl⟩, trivial⟩)

def maxWait (c : Dev nD) (r : Fin 15) : Prog (TpuEff nD τ sig (Elt F) Λ₀ .tc) PUnit :=
  Prog.lift (.waitDma2 (semAt cc0_scratch8 r) (aFrom c r) (aFrom c r) (View.wordExact_bits rfl)
    (View.wordExact_bits rfl))

def maxSentWait (c : Dev nD) (r : Fin 15) : Prog (TpuEff nD τ sig (Elt F) Λ₀ .tc) PUnit :=
  Prog.lift (.waitDma2 (semAt cc0_scratch7 r) (aOwn c) (aOwn c) (View.wordExact_bits rfl)
    (View.wordExact_bits rfl))

def loadG (c : Dev nD) (d : Fin 16) :
    Prog (TpuEff nD τ sig (Elt F) Λ₀ .tc) (Vec F S1x256x256 .bf16) :=
  Prog.lift (.load gR (Rect.unit (s := S16x256x256) (k0_off6 c (BitVec.ofNat 32 d.val))
    S1x256x256.size (k0_off6_inb c d)).toLoadRect (View.loadsAt_vmem h_S1x256x256))

def loadV (p : Fin 2) : Prog (TpuEff nD τ sig (Elt F) Λ₀ .tc) (Vec F S1x256x8192 .f32) :=
  Prog.lift (.load vR (Rect.unit (s := S2x256x8192) ![p.val, 0, 0] S1x256x8192.size
    (inbV p)).toLoadRect (View.loadsAt_vmem h_S1x256x8192))

def loadO : Prog (TpuEff nD τ sig (Elt F) Λ₀ .tc) (Vec F S256x8192 .f32) :=
  Prog.lift (.load oR (Rect.unit (s := S256x8192) ![0, 0] S256x8192.size
    inb_S256x8192_S256x8192_0_0).toLoadRect (View.loadsAt_vmem h_S256x8192))

def storeO (v : FVec F S256x8192 .f32) : Prog (TpuEff nD τ sig (Elt F) Λ₀ .tc) PUnit :=
  Prog.lift (.store oR (Rect.unit (s := S256x8192) ![0, 0] S256x8192.size
    inb_S256x8192_S256x8192_0_0) v Finset.univ (View.stores_vmem_bits_univ h_S256x8192 rfl)
    (.inl rfl))

/-- The parity of a step: the slot it uses. -/
def slotOf (n : ℕ) : Fin 2 := ⟨n % 2, Nat.mod_lt _ (by decide)⟩

/-- Step `i + 1` of the accumulation with its look-ahead copy, for `i < 13`. -/
def accStep (c : Dev nD) (i : Fin 13) : Prog (TpuEff nD τ sig (Elt F) Λ₀ .tc) PUnit := do
  recvWait c (Fin.castLE (by decide) i)
  waitW c (ordI (Fin.castLE (by decide) i.succ)) (slotOf (i.val + 1))
  let g ← loadG c (ordI (Fin.castLE (by decide) i.succ))
  let w ← loadV (slotOf (i.val + 1))
  fetchW c (ordI (Fin.castLE (by decide) i.succ.succ.succ)) (slotOf (i.val + 1))
  let o ← loadO
  let _ ← loadO
  storeO (k0_pay6 g w o)

/-- The last two steps. -/
def accLast (c : Dev nD) (i : Fin 2) : Prog (TpuEff nD τ sig (Elt F) Λ₀ .tc) PUnit := do
  recvWait c (Fin.natAdd 13 i)
  waitW c (ordI (Fin.natAdd 14 i)) (slotOf i.val)
  let g ← loadG c (ordI (Fin.natAdd 14 i))
  let w ← loadV (slotOf i.val)
  let o ← loadO
  let _ ← loadO
  storeO (k0_pay6 g w o)

/-- The data's rounding, the device's own slot of the gathered data, and the first two copies of
the weight. -/
def castPart (c : Dev nD) : Prog (TpuEff nD τ sig (Elt F) Λ₀ .tc) PUnit := do
  fetchW c 0 0
  fetchW c 1 1
  let x : Vec F S4096x256 .f32 ← Prog.lift (.load xR (Rect.unit (s := S4096x256) ![0, 0]
    S4096x256.size inb_S4096x256_S4096x256_0_0).toLoadRect (View.loadsAt_vmem h_S4096x256))
  let _ : Vec F S4096x256 .bf16 ← Prog.lift (.load bR (Rect.unit (s := S4096x256) ![0, 0]
    S4096x256.size inb_S4096x256_S4096x256_0_0).toLoadRect (View.loadsAt_vmem h_S4096x256))
  Prog.lift (.store bR (Rect.unit (s := S4096x256) ![0, 0] S4096x256.size
    inb_S4096x256_S4096x256_0_0) (k0_pay2 x) Finset.univ
    (View.stores_vmem h_S4096x256 ((Memref.isWhole_whole cc0_scratch0).storeExact_slice rfl _
      packedbf16_S4096x256_S4096x256_0_0) (fun _ => rfl)) (.inl rfl))
  let y : Vec F S256x256 .bf16 ← Prog.lift (.load bR (Rect.unit (s := S4096x256) (k0_off2 c)
    S256x256.size (k0_off2_inb c)).toLoadRect (View.loadsAt_vmem h_S256x256))
  let _ : Vec F S1x256x256 .bf16 ← Prog.lift (.load gR (Rect.unit (s := S16x256x256) (k0_off3 c)
    S1x256x256.size (k0_off3_inb c)).toLoadRect (View.loadsAt_vmem h_S1x256x256))
  Prog.lift (.store gR (Rect.unit (s := S16x256x256) (k0_off3 c) S1x256x256.size (k0_off3_inb c))
    (k0_pay3 y) Finset.univ
    (View.stores_vmem h_S1x256x256 ((Memref.isWhole_whole cc0_scratch1).storeExact_slice rfl _
      (k0_off3_packedbf16 c)) (fun _ => rfl)) (.inl rfl))

/-- The first step of the accumulation. -/
def accFirst (c : Dev nD) : Prog (TpuEff nD τ sig (Elt F) Λ₀ .tc) PUnit := do
  waitW c 0 0
  let g ← loadG c 0
  let w ← loadV 0
  fetchW c 15 0
  let _ ← loadO
  storeO (k0_pay5 (k0_pay4 g) w)

/-- The device's own maximum into its row of the table. -/
def maxPart (c : Dev nD) : Prog (TpuEff nD τ sig (Elt F) Λ₀ .tc) PUnit := do
  let o ← loadO
  let _ : Vec F S1x128 .f32 ← Prog.lift (.load aR (Rect.unit (s := S16x128) (k0_off8 c)
    S1x128.size (k0_off8_inb c)).toLoadRect (View.loadsAt_vmem h_S1x128))
  Prog.lift (.store aR (Rect.unit (s := S16x128) (k0_off8 c) S1x128.size (k0_off8_inb c))
    (k0_pay31 (k0_pay30 o)) Finset.univ (View.stores_vmem_bits_univ h_S1x128 rfl) (.inl rfl))

/-- The scaling of the result by the table's maximum. -/
def scalePart : Prog (TpuEff nD τ sig (Elt F) Λ₀ .tc) PUnit := do
  let a : Vec F S16x128 .f32 ← Prog.lift (.load aR (Rect.unit (s := S16x128) ![0, 0] S16x128.size
    inb_S16x128_S16x128_0_0).toLoadRect (View.loadsAt_vmem h_S16x128))
  let o ← loadO
  let _ ← loadO
  storeO (k0_pay1 (k0_pay33 a) (k0_pay34 a o))

/-- The body with its loops folded. -/
def loopProg : Prog (TpuEff nD τ sig (Elt F) Λ₀ .tc) PUnit := do
  let c : Dev nD ← Prog.lift .deviceId
  castPart c
  seqF 15 (signalStep c)
  semWaitWord barS 15#32
  seqF 15 (sendStep c)
  accFirst c
  seqF 13 (accStep c)
  seqF 2 (accLast c)
  seqF 15 (sentWait c)
  maxPart c
  seqF 15 (maxSend c)
  seqF 15 (maxWait c)
  seqF 15 (maxSentWait c)
  scalePart

set_option maxRecDepth 65536 in
/-- The printed body is the folded one. -/
theorem body_eq_loops :
    cc0_body (F := F) (Memref.whole cc0_stg0_0) (Memref.isWhole_whole _) (Memref.whole main_arg1)
      (Memref.isWhole_whole _) (Memref.whole cc0_stg1_0) (Memref.isWhole_whole _)
      (Memref.whole cc0_scratch0) (Memref.isWhole_whole _) (Memref.whole cc0_scratch1)
      (Memref.isWhole_whole _) (Memref.whole cc0_scratch2) (Memref.isWhole_whole _)
      (Memref.whole cc0_scratch3) (Memref.isWhole_whole _) (Memref.whole cc0_scratch4)
      (Memref.isWhole_whole _) cc0_scratch5 cc0_scratch6 cc0_scratch7 cc0_scratch8 cc0_scratch9
      = loopProg :=
  rfl

end Cert.KernelIdeal.Gen
end
-- ==== Proof.Geom.lean ====
module

public import proofs.«01_k».proof.Proof.Loops
public import Idealize.ShloMosaic.Lib.Ring
public import Idealize.ShloMosaic.Lib.ViewIndex
public import Idealize.ShloMosaic.Lib.ValueLayout

@[expose] public section

/-! Where the kernel's blocks lie.

Device `c` speaks with the devices `rot c r`, `r < 15`. Its offset chains are read off as closed
forms, and the element sets under its slices are the blocks of four families. -/

noncomputable section

namespace Cert.KernelIdeal.Gen

open Idealize.ShloMosaic Idealize.ShloMosaic.ValueIdx Idealize.SL.Sem

set_option backward.proofsInPublic true in
/-- The device `r + 1` further round. -/
def rot (c : Dev nD) (r : Fin 15) : Dev nD := ⟨(c.val + r.val + 1) % 16, Nat.mod_lt _ (by decide)⟩

set_option backward.proofsInPublic true in
/-- The device `d` before. -/
def back (c : Dev nD) (d : Fin 16) : Dev nD := ⟨(c.val + 16 - d.val) % 16, Nat.mod_lt _ (by decide)⟩

theorem rot_rev (c : Dev nD) (r : Fin 15) : rot (rot c r) r.rev = c := by revert c r; decide
theorem rev_rot (c : Dev nD) (r : Fin 15) : rot (rot c r.rev) r = c := by revert c r; decide
theorem rot_inj (c : Dev nD) : Function.Injective (rot c) := by revert c; decide
theorem rot_ne (c : Dev nD) (r : Fin 15) : rot c r ≠ c := by revert c r; decide
theorem rot_univ (c : Dev nD) :
    (Finset.univ : Finset (Dev nD)) = insert c (Finset.univ.map ⟨rot c, rot_inj c⟩) := by
  revert c; decide
theorem rot_notMem (c : Dev nD) : c ∉ Finset.univ.map ⟨rot c, rot_inj c⟩ := by revert c; decide
theorem back_zero (c : Dev nD) : back c 0 = c := by revert c; decide
theorem back_ordD (c : Dev nD) (j : Fin 15) : back c (ordI j.succ) = rot c (ordD j).rev := by
  revert c j; decide

/-- The offset for the devices before, as a bijection: `r ↦ rot c r` carries each onto each. -/
def rotE (r : Fin 15) : Dev nD ≃ Dev nD :=
  ⟨fun c => rot c r, fun c => rot c r.rev, fun c => rot_rev c r, fun c => rev_rot c r⟩

theorem ordD_bij : Function.Bijective ordD := by decide
def ordE : Fin 15 ≃ Fin 15 := Equiv.ofBijective ordD ordD_bij
theorem ordE_apply (j : Fin 15) : ordE j = ordD j := rfl

theorem sigDev_eq (c : Dev nD) (r : Fin 15) : sigDev c r = rot c r := by revert c r; decide
theorem datDev_eq (c : Dev nD) (j : Fin 15) : datDev c j = rot c (ordD j) := by revert c j; decide
theorem maxDev_eq (c : Dev nD) (r : Fin 15) : maxDev c r = rot c r := by revert c r; decide

theorem off1_eq (c : Dev nD) (d : Fin 16) :
    k0_off1 c (BitVec.ofNat 32 d.val) = ![256 * (back c d).val, 0] := by revert c d; decide
theorem off2_eq (c : Dev nD) : k0_off2 c = ![256 * c.val, 0] := by revert c; decide
theorem off3_eq (c : Dev nD) : k0_off3 c = ![c.val, 0, 0] := by revert c; decide
theorem off4_eq (c : Dev nD) : k0_off4 c = ![c.val, 0, 0] := by revert c; decide
theorem off5_eq (c : Dev nD) (r : Fin 15) :
    k0_off5 c (BitVec.ofNat 32 (1 + r.val)) = ![256 * (rot c r).val, 0] := by revert c r; decide
theorem off6_eq (c : Dev nD) (d : Fin 16) :
    k0_off6 c (BitVec.ofNat 32 d.val) = ![(back c d).val, 0, 0] := by revert c d; decide
theorem off7_eq (c : Dev nD) (r : Fin 15) :
    k0_off7 c (BitVec.ofNat 32 (1 + r.val)) = ![(rot c r.rev).val, 0, 0] := by revert c r; decide
theorem off8_eq (c : Dev nD) : k0_off8 c = ![c.val, 0] := by revert c; decide
theorem off9_eq (c : Dev nD) : k0_off9 c = ![c.val, 0] := by revert c; decide
theorem off10_eq (c : Dev nD) (r : Fin 15) :
    k0_off10 c (BitVec.ofNat 32 (1 + r.val)) = ![(rot c r.rev).val, 0] := by revert c r; decide

/-! ### The four families of blocks -/

theorem inbB (b : Fin 16) : ∀ a, (![256 * b.val, 0] : Fin 2 → Nat) a + S256x256.size a ≤ S4096x256.size a := by
  revert b; decide
theorem inbG (b : Fin 16) :
    ∀ a, (![b.val, 0, 0] : Fin 3 → Nat) a + S1x256x256.size a ≤ S16x256x256.size a := by
  revert b; decide
theorem inbA (b : Fin 16) : ∀ a, (![b.val, 0] : Fin 2 → Nat) a + S1x128.size a ≤ S16x128.size a := by
  revert b; decide
theorem inbWB (b : Fin 16) :
    ∀ a, (![256 * b.val, 0] : Fin 2 → Nat) a + S256x8192.size a ≤ S4096x8192.size a := by
  revert b; decide

/-- Rows `256 * b …` of the rounded data; -/
def bRect (b : Fin 16) : Rect S4096x256 := Rect.unit (s := S4096x256) ![256 * b.val, 0] S256x256.size (inbB b)
/-- slot `b` of the gathered data; -/
def gRect (b : Fin 16) : Rect S16x256x256 := Rect.unit (s := S16x256x256) ![b.val, 0, 0] S1x256x256.size (inbG b)
/-- row `b` of the table of maxima; -/
def aRect (b : Fin 16) : Rect S16x128 := Rect.unit (s := S16x128) ![b.val, 0] S1x128.size (inbA b)
/-- slot `p` of the weight's double buffer; -/
def vRect (p : Fin 2) : Rect S2x256x8192 := Rect.unit (s := S2x256x8192) ![p.val, 0, 0] S1x256x8192.size (inbV p)
/-- rows `256 * b …` of the weight. -/
def wRect (b : Fin 16) : Rect S4096x8192 := Rect.unit (s := S4096x8192) ![256 * b.val, 0] S256x8192.size (inbWB b)

theorem bRect_disj (b b' : Fin 16) (h : b ≠ b') : Disjoint (bRect b).set (bRect b').set :=
  Ring.lead_disjoint (s := S4096x256) 0 256 (fun b => ![256 * b.val, 0]) _ inbB (fun _ => rfl) rfl b b' h
theorem bRect_cover : Finset.univ.biUnion (fun b => (bRect b).set) = Finset.univ :=
  Ring.lead_cover (s := S4096x256) 0 256 (fun b => ![256 * b.val, 0]) _ inbB (fun _ => rfl)
    (by decide) rfl (by decide) rfl
theorem gRect_disj (b b' : Fin 16) (h : b ≠ b') : Disjoint (gRect b).set (gRect b').set :=
  Ring.lead_disjoint (s := S16x256x256) 0 1 (fun b => ![b.val, 0, 0]) _ inbG (fun b => (Nat.one_mul _).symm) rfl b b' h
theorem gRect_cover : Finset.univ.biUnion (fun b => (gRect b).set) = Finset.univ :=
  Ring.lead_cover (s := S16x256x256) 0 1 (fun b => ![b.val, 0, 0]) _ inbG (fun b => (Nat.one_mul _).symm)
    (by decide) rfl (by decide) rfl
theorem aRect_disj (b b' : Fin 16) (h : b ≠ b') : Disjoint (aRect b).set (aRect b').set :=
  Ring.lead_disjoint (s := S16x128) 0 1 (fun b => ![b.val, 0]) _ inbA (fun b => (Nat.one_mul _).symm) rfl b b' h
theorem aRect_cover : Finset.univ.biUnion (fun b => (aRect b).set) = Finset.univ :=
  Ring.lead_cover (s := S16x128) 0 1 (fun b => ![b.val, 0]) _ inbA (fun b => (Nat.one_mul _).symm)
    (by decide) rfl (by decide) rfl
theorem vRect_disj (b b' : Fin 2) (h : b ≠ b') : Disjoint (vRect b).set (vRect b').set :=
  Ring.lead_disjoint (s := S2x256x8192) 0 1 (fun b => ![b.val, 0, 0]) _ inbV (fun b => (Nat.one_mul _).symm) rfl b b' h
theorem vRect_cover : Finset.univ.biUnion (fun b => (vRect b).set) = Finset.univ :=
  Ring.lead_cover (s := S2x256x8192) 0 1 (fun b => ![b.val, 0, 0]) _ inbV (fun b => (Nat.one_mul _).symm)
    (by decide) rfl (by decide) rfl

/-! ### The kernel's slices are blocks of these -/

/-- Memrefs of the blocks themselves, at an index. -/
def bAt (b : Fin 16) : Memref sig .tc .vmem S256x256 .bf16 := bR.slice (bRect b) (fun _ => rfl)
def gAt (b : Fin 16) : Memref sig .tc .vmem S256x256 .bf16 :=
  (gR.slice (gRect b) (fun _ => rfl)).squeeze S256x256 squeezes_S1x256x256_S256x256
def aAt (b : Fin 16) : Memref sig .tc .vmem S1x128 .f32 := aR.slice (aRect b) (fun _ => rfl)
def wAt (b : Fin 16) : Memref sig .tc .hbm S256x8192 .f32 := wR.slice (wRect b) (fun _ => rfl)

theorem slice_congr {κ : Kind} {sp : Space} {s : Shape} {e : EltTy} (m : Memref sig κ sp s e)
    {off off' size : Fin s.rank → Nat} (h : off = off') (p : ∀ a, off a + size a ≤ s.size a)
    (p' : ∀ a, off' a + size a ≤ s.size a) :
    m.slice (Rect.unit off size p) (fun _ => rfl) = m.slice (Rect.unit off' size p') (fun _ => rfl) := by
  subst h; rfl

theorem bBlk_eq (c : Dev nD) (r : Fin 15) : bBlk c r = bAt (rot c r) :=
  slice_congr bR (off5_eq c r) _ _
theorem gOwn_eq (c : Dev nD) : gOwn c = gAt c :=
  congrArg (fun m : Memref sig .tc .vmem S1x256x256 .bf16 => m.squeeze S256x256 squeezes_S1x256x256_S256x256)
    (slice_congr gR (off4_eq c) (k0_off4_inb c) (inbG c))
theorem gFrom_eq (c : Dev nD) (r : Fin 15) : gFrom c r = gAt (rot c r.rev) :=
  congrArg (fun m : Memref sig .tc .vmem S1x256x256 .bf16 => m.squeeze S256x256 squeezes_S1x256x256_S256x256)
    (slice_congr gR (off7_eq c r) (k0_off7_inb c r) (inbG _))
theorem aOwn_eq (c : Dev nD) : aOwn c = aAt c := slice_congr aR (off9_eq c) _ _
theorem aFrom_eq (c : Dev nD) (r : Fin 15) : aFrom c r = aAt (rot c r.rev) := slice_congr aR (off10_eq c r) _ _
theorem wBlk_eq (c : Dev nD) (d : Fin 16) : wBlk c d = wAt (back c d) := slice_congr wR (off1_eq c d) _ _

theorem rect_congr {s : Shape} {off off' size : Fin s.rank → Nat} (h : off = off')
    (p : ∀ a, off a + size a ≤ s.size a) (p' : ∀ a, off' a + size a ≤ s.size a) :
    Rect.unit (s := s) off size p = Rect.unit (s := s) off' size p' := by
  subst h; rfl

theorem bAt_set (b : Fin 16) : (bAt b).view.set = (bRect b).set := View.set_slice_whole _ _
theorem gAt_set (b : Fin 16) : (gAt b).view.set = (gRect b).set :=
  (View.set_reshape _ _).trans (View.set_slice_whole _ _)
theorem aAt_set (b : Fin 16) : (aAt b).view.set = (aRect b).set := View.set_slice_whole _ _
theorem wAt_set (b : Fin 16) : (wAt b).view.set = (wRect b).set := View.set_slice_whole _ _
theorem vSlot_set (p : Fin 2) : (vSlot p).view.set = (vRect p).set :=
  (View.set_reshape _ _).trans (View.set_slice_whole _ _)

theorem gSetOn (b : Fin 16) : gR.view.setOn (gRect b).toLoadRect.set ⊆ (gRect b).set := by
  show (gRect b).set.map _ ⊆ _
  intro i hi
  obtain ⟨x, hx, rfl⟩ := Finset.mem_map.mp hi
  exact hx
theorem gAccess (b : Fin 16) : (gR.access (gRect b)).setOn Finset.univ = (gRect b).set :=
  View.set_slice_whole _ _
theorem aAccess (b : Fin 16) : (aR.access (aRect b)).setOn Finset.univ = (aRect b).set :=
  View.set_slice_whole _ _
theorem aSetOn (b : Fin 16) : aR.view.setOn (aRect b).toLoadRect.set ⊆ (aRect b).set := by
  show (aRect b).set.map _ ⊆ _
  intro i hi
  obtain ⟨x, hx, rfl⟩ := Finset.mem_map.mp hi
  exact hx
theorem vSetOn (p : Fin 2) : vR.view.setOn (vRect p).toLoadRect.set ⊆ (vRect p).set := by
  show (vRect p).set.map _ ⊆ _
  intro i hi
  obtain ⟨x, hx, rfl⟩ := Finset.mem_map.mp hi
  exact hx

/-! ### Where an index of a block lands -/

theorem bAt_emb (b : Fin 16) (x : S256x256.Idx) (h : 256 * b.val + (x 0).val < 4096) :
    (bAt b).view.emb x = ix2 ⟨256 * b.val + (x 0).val, h⟩ (x 1) := by
  funext a
  match a with
  | ⟨0, _⟩ => exact Fin.ext (by show 256 * b.val + 1 * (x 0).val = _; rw [Nat.one_mul])
  | ⟨1, _⟩ => exact Fin.ext (by show 0 + 1 * (x 1).val = (x 1).val; omega)

theorem gRect_emb (b : Fin 16) (x : S1x256x256.Idx) : (gRect b).emb x = ix3 b (x 1) (x 2) := by
  have h0 : (x 0).val = 0 := by have := (x 0).isLt; have e : S1x256x256.size 0 = 1 := rfl; omega
  funext a
  match a with
  | ⟨0, _⟩ => exact Fin.ext (by show b.val + 1 * (x 0).val = _; rw [h0]; rfl)
  | ⟨1, _⟩ => exact Fin.ext (by show 0 + 1 * (x 1).val = (x 1).val; omega)
  | ⟨2, _⟩ => exact Fin.ext (by show 0 + 1 * (x 2).val = (x 2).val; omega)

theorem reshape_lead {m n : ℕ} (h : (⟨2, ![m, n]⟩ : Shape).numel = (⟨3, ![1, m, n]⟩ : Shape).numel)
    (x : (⟨2, ![m, n]⟩ : Shape).Idx) :
    Shape.reshapeEquiv h x = ix3 (⟨0, Nat.one_pos⟩ : Fin 1) (x 0) (x 1) :=
  (congrArg (Shape.reshapeEquiv h) (eq_ix2 x)).trans (reshapeEquiv_ix2_1ab h (x 0) (x 1))

theorem gAt_emb (b : Fin 16) (x : S256x256.Idx) : (gAt b).view.emb x = ix3 b (x 0) (x 1) :=
  (congrArg (gRect b).emb (reshape_lead (squeezes_S1x256x256_S256x256).numel_eq x)).trans
    (gRect_emb b (ix3 (⟨0, Nat.one_pos⟩ : Fin 1) (x 0) (x 1)))

theorem aRect_emb (b : Fin 16) (x : S1x128.Idx) : (aRect b).emb x = ix2 b (x 1) := by
  have h0 : (x 0).val = 0 := by have := (x 0).isLt; have e : S1x128.size 0 = 1 := rfl; omega
  funext a
  match a with
  | ⟨0, _⟩ => exact Fin.ext (by show b.val + 1 * (x 0).val = _; rw [h0]; rfl)
  | ⟨1, _⟩ => exact Fin.ext (by show 0 + 1 * (x 1).val = (x 1).val; omega)

theorem vSlot_emb (p : Fin 2) (x : S256x8192.Idx) :
    (vSlot p).view.emb x = (vRect p).emb (ix3 (⟨0, Nat.one_pos⟩ : Fin 1) (x 0) (x 1)) :=
  congrArg (vRect p).emb (reshape_lead (squeezes_S1x256x8192_S256x8192).numel_eq x)

theorem wAt_emb (b : Fin 16) (x : S256x8192.Idx) (h : 256 * b.val + (x 0).val < 4096) :
    (wAt b).view.emb x = ix2 ⟨256 * b.val + (x 0).val, h⟩ (x 1) := by
  funext a
  match a with
  | ⟨0, _⟩ => exact Fin.ext (by show 256 * b.val + 1 * (x 0).val = _; rw [Nat.one_mul])
  | ⟨1, _⟩ => exact Fin.ext (by show 0 + 1 * (x 1).val = (x 1).val; omega)

end Cert.KernelIdeal.Gen
end
-- ==== Proof.Protocol.lean ====
module

public import proofs.«01_k».proof.Proof.Geom
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic

@[expose] public section

/-! The kernel's protocol: contents, cells, schedule, levels, and what each device owes.

Device `c` signals every other device's barrier cell once; with the signal goes the right to write
slot `c'` of its gathered data and row `c'` of its table of maxima, `c'` the device signalled. After
fifteen units it copies a block of its rounded data to every device, reads the fifteen it receives,
and does the same with its row of maxima. A barrier cell has fifteen duties of one unit; a cell of
one of the four arrays of fifteen semaphores has one duty, of the copy's credit. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 15)
abbrev UU : Type := UR sig nD τ × (UB × Counters)

local notation "𝕄" => MT nD τ sig Unit (Elt F) ℕ UU ℕ

/-- The pipeline library's part, the rounds' part, and the counters of the local copies. -/
abbrev EP : Emb (UR sig nD τ) (MT nD τ sig Unit (Elt F) ℕ UU ℕ) := embL
abbrev EQ : Emb (UB × Counters) (MT nD τ sig Unit (Elt F) ℕ UU ℕ) := embR
abbrev ER : Emb UB (MT nD τ sig Unit (Elt F) ℕ UU ℕ) := Emb.inl.trans EQ

variable (m : (ℓ : Loc nD τ sig) → Buf (Elt F) ℓ) (ρ : Dev nD → PrngReg)

def s₀ : MemSt nD τ sig (Elt F) := ⟨m, fun _ => 0, ρ⟩

/-! ## Contents -/

/-- Device `c`'s two arguments. -/
def xstg (c : Dev nD) : Vec F S4096x256 .f32 :=
  (win0_0.blk (0 : Fin 1)).view.read (Elt F) (m ((c : Thread nD τ).loc main_arg0))
def wstg (c : Dev nD) : Vec F S4096x8192 .f32 := m ((c : Thread nD τ).loc main_arg1)

/-- Its rounded data, and its gathered data when every copy has landed: slot `j` holds the rows for
device `d` of device `j`'s rounded data. -/
def castX (c : Dev nD) : FVec F S4096x256 .bf16 := k0_pay2 (xstg m c)

theorem row_lt (d : Fin 16) (x : Fin 256) : 256 * d.val + x.val < 4096 := by omega

def gAll (d : Dev nD) : FVec F S16x256x256 .bf16 := fun i =>
  castX m (i 0 : Fin 16) (ix2 ⟨256 * d.val + (i 1).val, row_lt d (i 1)⟩ (i 2))

/-- What the accumulation's step for offset `d` loads. -/
def gVal (c : Dev nD) (d : Fin 16) : FVec F S1x256x256 .bf16 := fun i =>
  gAll m c (ix3 (back c d) (i 1) (i 2))
def wVal (c : Dev nD) (d : Fin 16) : FVec F S1x256x8192 .f32 := fun i =>
  wstg m c (ix2 ⟨256 * (back c d).val + (i 1).val, row_lt (back c d) (i 1)⟩ (i 2))

set_option backward.proofsInPublic true in
/-- The offset of step `n`. -/
def ordN (n : ℕ) : Fin 16 := ordI ⟨n % 16, Nat.mod_lt _ (by decide)⟩

/-- The result buffer after step `n` of the accumulation. -/
def acc (c : Dev nD) : ℕ → FVec F S256x8192 .f32
  | 0 => k0_pay5 (k0_pay4 (gVal m c 0)) (wVal m c 0)
  | n + 1 => k0_pay6 (gVal m c (ordN (n + 1))) (wVal m c (ordN (n + 1))) (acc c n)

/-- A device's row of maxima, the table of all of them, and the result. -/
def maxRow (c : Dev nD) : FVec F S1x128 .f32 := k0_pay31 (k0_pay30 (acc m c 15))
def aAll : FVec F S16x128 .f32 := fun i => maxRow m (i 0 : Fin 16) (ix2 ⟨0, Nat.one_pos⟩ (i 1))
def outAt (c : Dev nD) : FVec F S256x8192 .f32 :=
  k0_pay1 (k0_pay33 (aAll m)) (k0_pay34 (aAll m) (acc m c 15))

/-! ## Blocks held -/

/-- Slot `b` of device `d`'s gathered data, row `b` of its table (at a share), rows for device `b`
of its rounded data. -/
def gP (d : Dev nD) (b : Fin 16) (f : Buf (Elt F) ((d : Thread nD τ).loc cc0_scratch1)) : sProp 𝕄 :=
  (d : Thread nD τ).loc cc0_scratch1 ↦[(gRect b).set]{fullShare} f
def aP (d : Dev nD) (b : Fin 16) (q : PosShare TreeShare)
    (f : Buf (Elt F) ((d : Thread nD τ).loc cc0_scratch4)) : sProp 𝕄 :=
  (d : Thread nD τ).loc cc0_scratch4 ↦[(aRect b).set]{q} f
def bP (d : Dev nD) (b : Fin 16) (f : Buf (Elt F) ((d : Thread nD τ).loc cc0_scratch0)) : sProp 𝕄 :=
  (d : Thread nD τ).loc cc0_scratch0 ↦[(bRect b).set]{fullShare} f

instance gP_storable (d : Dev nD) (b : Fin 16) (f) : BI.Storable (upEmb : UEmb _ 𝕄) (gP (F := F) d b f) := by
  unfold gP; infer_instance
instance aP_storable (d : Dev nD) (b : Fin 16) (q) (f) : BI.Storable (upEmb : UEmb _ 𝕄) (aP (F := F) d b q f) := by
  unfold aP; infer_instance
instance bP_storable (d : Dev nD) (b : Fin 16) (f) : BI.Storable (upEmb : UEmb _ 𝕄) (bP (F := F) d b f) := by
  unfold bP; infer_instance

/-- The share of its own row a device lends to its copy to the device `r + 1` further. -/
def lent (r : Fin 15) : PosShare TreeShare := Transfers.dealOf fullShare Finset.univ r

/-! ## Cells -/

/-- The cells of a device: its barrier's, and the four arrays of fifteen (sent, received, for the
data and for the maxima). -/
abbrev CI : Type := Option (Fin 4 × Fin 15)

set_option backward.proofsInPublic true in
def dq (k : Fin 4) (r : Fin 15) : DmaSem sig := ⟨2 + 15 * k.val + r.val, by
  have : sig.nDmaSem = 64 := rfl
  omega⟩

def csem : CI → SemLoc sig
  | none => .reg barS
  | some (k, r) => .dma (dq k r)

set_option backward.proofsInPublic true in
/-- Which cell a semaphore is, if one of these. -/
def cidx : SemLoc sig → Option CI
  | .reg s => if s = barS then some none else none
  | .dma q => if h : 2 ≤ q.val ∧ q.val < 62 then
      some (some (⟨(q.val - 2) / 15, by omega⟩, ⟨(q.val - 2) % 15, Nat.mod_lt _ (by decide)⟩)) else none

theorem cidx_csem (i : CI) : cidx (csem i) = some i := by
  revert i; decide
theorem csem_inj : Function.Injective csem := fun i i' h =>
  Option.some.inj ((cidx_csem i).symm.trans ((congrArg cidx h).trans (cidx_csem i')))

abbrev cell (c : Dev nD) (i : CI) : GSem nD τ sig := ((c : Thread nD τ), csem i)

theorem semAt5 (r : Fin 15) : semAt cc0_scratch5 r = dq 0 r := by revert r; decide
theorem semAt6 (r : Fin 15) : semAt cc0_scratch6 r = dq 1 r := by revert r; decide
theorem semAt7 (r : Fin 15) : semAt cc0_scratch7 r = dq 2 r := by revert r; decide
theorem semAt8 (r : Fin 15) : semAt cc0_scratch8 r = dq 3 r := by revert r; decide
theorem cidx_wsem (p : Fin 2) : cidx (.dma (wsemAt p)) = none := by revert p; decide

/-- The credits of a data copy, of a copy of a row of maxima, and of a copy of the weight. -/
abbrev N : ℕ := (gAt 0).view.dmaCredit
abbrev NA : ℕ := (aAt 0).view.dmaCredit
abbrev NW : ℕ := (vSlot 0).view.dmaCredit
theorem N_pos : 0 < N := View.dmaCredit_pos _ (by decide)
theorem NA_pos : 0 < NA := View.dmaCredit_pos _ (by decide)
theorem NW_pos : 0 < NW := View.dmaCredit_pos _ (by decide)

/-- The units a duty of a cell is worth. -/
def units : CI → ℕ
  | none => 1
  | some (k, _) => if k.val < 2 then N else NA
theorem units_pos (i : CI) : 0 < units i := by
  rcases i with _ | ⟨k, r⟩
  · exact Nat.one_pos
  · unfold units; dsimp only; split
    · exact N_pos
    · exact NA_pos

/-! ## The schedule -/

/-- What duty `r` of a cell of device `c` hands over. -/
def pay (c : Dev nD) (i : CI) (r : Fin 15) : sProp 𝕄 :=
  match i with
  | none => iprop((∃ f, gP (rot c r.rev) c f) ∗ ∃ f, aP (rot c r.rev) c fullShare f)
  | some (k, q) =>
    if k = 0 then bP c (rot c q) (castX m c)
    else if k = 1 then gP c (rot c q.rev) (gAll m c)
    else if k = 2 then aP c c (lent q) (aAll m)
    else aP c (rot c q.rev) fullShare (aAll m)

instance pay_storable (c : Dev nD) (i : CI) (r : Fin 15) :
    BI.Storable (upEmb : UEmb _ 𝕄) (pay (F := F) m c i r) := by
  rcases i with _ | ⟨k, q⟩ <;> unfold pay <;> dsimp only
  · infer_instance
  · (repeat' split) <;> infer_instance

/-- The duties of a cell: all fifteen of a barrier's, one of another. -/
def dutiesAt : CI → Finset (Fin 15)
  | none => Finset.univ
  | some _ => {0}

def Rd : Rounds.Schedule (GSem nD τ sig) (Fin 15) 𝕄 where
  duties g r := if r = 0 ∧ g.1.2 = .tc then (cidx g.2).elim ∅ dutiesAt else ∅
  unitless _ := False
  amount g _ _ := (cidx g.2).elim 1 units
  payload g _ d := (cidx g.2).elim iprop(emp) fun i => pay m g.1.1 i d
  amount_pos g _ _ _ := by
    cases cidx g.2 with
    | none => exact Nat.one_pos
    | some i => exact units_pos i

instance Rd_storable (g : GSem nD τ sig) (r : ℕ) (d : Fin 15) :
    BI.Storable (upEmb : UEmb _ 𝕄) ((Rd (F := F) m).payload g r d) := by
  show BI.Storable upEmb ((cidx g.2).elim iprop(emp) fun i => pay m g.1.1 i d)
  cases cidx g.2 <;> dsimp only [Option.elim] <;> infer_instance

section Sched
variable (c : Dev nD) (i : CI)

theorem duties_eq : (Rd (F := F) m).duties (cell c i) 0 = dutiesAt i := by
  show (if (0 : ℕ) = 0 ∧ (Proc.tc : Proc τ) = .tc then (cidx (csem i)).elim ∅ dutiesAt else ∅) = _
  rw [if_pos ⟨rfl, rfl⟩, cidx_csem]; rfl
theorem duties_later (g : GSem nD τ sig) : ∀ r, 1 ≤ r → (Rd (F := F) m).duties g r = ∅ :=
  fun r hr => if_neg fun h => by omega
theorem amount_eq (d : Fin 15) : (Rd (F := F) m).amount (cell c i) 0 d = units i := by
  show (cidx (csem i)).elim 1 units = _
  rw [cidx_csem]; rfl
theorem payload_eq (d : Fin 15) : (Rd (F := F) m).payload (cell c i) 0 d = pay m c i d := by
  show (cidx (csem i)).elim iprop(emp) (fun i => pay m c i d) = _
  rw [cidx_csem]; rfl
theorem expect_eq : (Rd (F := F) m).expect (cell c i) 0 = (dutiesAt i).card * units i := by
  unfold Schedule.expect Schedule.amountOf
  rw [duties_eq, Finset.sum_congr rfl fun d _ => amount_eq m c i d, Finset.sum_const, smul_eq_mul]
theorem rest_eq : bigSep ((Rd (F := F) m).duties (cell c i) 0 \ ∅) (fun d => (Rd (F := F) m).payload (cell c i) 0 d)
    = bigSep (dutiesAt i) fun d => pay m c i d := by
  rw [Finset.sdiff_empty, duties_eq]
  exact bigSep_congr fun d _ => payload_eq m c i d
end Sched

/-! ## Levels, and what a device owes -/

def L (g : GSem nD τ sig) : Finset Unit := if g.1.2 = .tc then {()} else ∅

/-- Barriers at 1, arrivals of data at 2, arrivals of maxima at 3, the rest at 0. -/
def lvC : CI → ℕ
  | none => 1
  | some (k, _) => if k = 1 then 2 else if k = 3 then 3 else 0
def lv (g : GSem nD τ sig) (_ : Unit) : ℕ := (cidx g.2).elim 0 lvC

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (cell c i) u = lvC i := by
  show (cidx (csem i)).elim 0 lvC = _
  rw [cidx_csem]; rfl

/-- The cells a device pays: each loop's, by position. -/
def barPaid (c : Dev nD) (r : Fin 15) : CellTallies nD τ sig Unit := tallyAt (cell (rot c r) none) () 1
def datPaid (c : Dev nD) (j : Fin 15) : CellTallies nD τ sig Unit :=
  tallyAt (cell (rot c (ordD j)) (some (1, ordD j))) () N
def maxPaid (c : Dev nD) (r : Fin 15) : CellTallies nD τ sig Unit :=
  tallyAt (cell (rot c r) (some (3, r))) () NA

/-- What is still owed of a loop from position `i` on. -/
def from_ (f : Fin 15 → CellTallies nD τ sig Unit) (i : ℕ) : CellTallies nD τ sig Unit :=
  ∑ j ∈ Finset.univ.filter (fun j : Fin 15 => i ≤ j.val), f j

theorem from_peel (f : Fin 15 → CellTallies nD τ sig Unit) (i : Fin 15) :
    from_ f i.val = from_ f (i.val + 1) + f i := by
  unfold from_
  have e : Finset.univ.filter (fun j : Fin 15 => i.val ≤ j.val)
      = insert i (Finset.univ.filter fun j : Fin 15 => i.val + 1 ≤ j.val) := by
    ext j; simp only [Finset.mem_filter, Finset.mem_univ, true_and, Finset.mem_insert, Fin.ext_iff]; omega
  rw [e, Finset.sum_insert (by simp), add_comm]
theorem from_end (f : Fin 15 → CellTallies nD τ sig Unit) : from_ f 15 = 0 := by
  unfold from_
  rw [Finset.filter_false_of_mem fun j _ => by omega]; rfl
theorem from_start (f : Fin 15 → CellTallies nD τ sig Unit) : from_ f 0 = ∑ j, f j := by
  unfold from_
  rw [Finset.filter_true_of_mem fun j _ => Nat.zero_le _]

/-- The rest owed past the barrier, and everything. -/
def O₂ (c : Dev nD) : CellTallies nD τ sig Unit := from_ (maxPaid c) 0
def O₁ (c : Dev nD) : CellTallies nD τ sig Unit := from_ (datPaid c) 0 + O₂ c
def O₀ (c : Dev nD) : CellTallies nD τ sig Unit := from_ (barPaid c) 0 + O₁ c

/-- All that is owed lies above `cut`. -/
def Above (cut : ℕ) (O : CellTallies nD τ sig Unit) : Prop :=
  ∀ g u, 0 < O g u → g.1.2 = .tc ∧ cut < lv g u

theorem above_zero (cut : ℕ) : Above cut 0 := fun g u h => absurd h (Nat.lt_irrefl 0)
theorem above_add {cut : ℕ} {A B : CellTallies nD τ sig Unit} (hA : Above cut A) (hB : Above cut B) :
    Above cut (A + B) := fun g u h => by
  rw [Pi.add_apply, Finsupp.add_apply] at h
  rcases Nat.eq_zero_or_pos (A g u) with h0 | h0
  · exact hB g u (by omega)
  · exact hA g u h0
theorem above_tally {cut n : ℕ} {c : Dev nD} {i : CI} (h : cut < lvC i) : Above cut (tallyAt (cell c i) () n) :=
  fun g u hg => by
    rw [tallyAt_apply] at hg
    by_cases hc : g = cell c i ∧ u = ()
    · rw [hc.1]; exact ⟨rfl, by rw [lv_cell]; exact h⟩
    · rw [if_neg hc] at hg; exact absurd hg (Nat.lt_irrefl 0)
theorem above_sum {cut : ℕ} (s : Finset (Fin 15)) (f : Fin 15 → CellTallies nD τ sig Unit) (h : ∀ j, Above cut (f j)) :
    Above cut (∑ j ∈ s, f j) := by
  induction s using Finset.induction_on with
  | empty => exact above_zero cut
  | insert j s hj ih => rw [Finset.sum_insert hj]; exact above_add (h j) ih
theorem above_from {cut : ℕ} (f : Fin 15 → CellTallies nD τ sig Unit) (i : ℕ) (h : ∀ j, Above cut (f j)) :
    Above cut (from_ f i) := above_sum _ f h

theorem above_max (c : Dev nD) (i : ℕ) : Above 2 (from_ (maxPaid c) i) :=
  above_from _ _ fun j => above_tally (by show 2 < 3; decide)
theorem above_dat (c : Dev nD) (i : ℕ) : Above 1 (from_ (datPaid c) i) :=
  above_from _ _ fun j => above_tally (by show 1 < 2; decide)
theorem above_bar (c : Dev nD) (i : ℕ) : Above 0 (from_ (barPaid c) i) :=
  above_from _ _ fun j => above_tally (by show 0 < 1; decide)
theorem above_mono {a b : ℕ} (h : a ≤ b) {O : CellTallies nD τ sig Unit} (hO : Above b O) : Above a O :=
  fun g u hg => ⟨(hO g u hg).1, lt_of_le_of_lt h (hO g u hg).2⟩
theorem above_O₂ (c : Dev nD) : Above 2 (O₂ c) := above_max c 0
theorem above_O₁ (c : Dev nD) : Above 1 (O₁ c) := above_add (above_dat c 0) (above_mono (by decide) (above_O₂ c))
theorem above_O₀ (c : Dev nD) : Above 0 (O₀ c) := above_add (above_bar c 0) (above_mono (by decide) (above_O₁ c))

/-- A device may wait at a cell no higher than all it owes. -/
theorem mayWait (c : Dev nD) (sm : SemLoc sig) {cut : ℕ} {O : CellTallies nD τ sig Unit}
    (hs : (cidx sm).elim 0 lvC ≤ cut) (hO : Above cut O) :
    (levAts L lv : sProp 𝕄) ⊢ MayWait (c : Thread nD τ) sm () O :=
  MayOwe.of_cut (L := L) (lev := lv) cut
    (fun p hp => by rw [Finset.mem_singleton.mp hp, L_tc]; exact Finset.mem_singleton_self _)
    (fun g u hg => by
      obtain ⟨⟨d, κ⟩, sm'⟩ := g
      have h := (hO _ u hg).1
      dsimp only at h; subst h
      rw [L_tc]; exact Finset.mem_singleton_self _)
    (fun p hp => by rw [Finset.mem_singleton.mp hp]; exact hs)
    (fun g u hg => (hO g u hg).2)

end Cert.KernelIdeal.Gen
end
-- ==== Proof.Steps.lean ====
module

public import proofs.«01_k».proof.Proof.Protocol

@[expose] public section

set_option maxRecDepth 8192

/-! One rule for each step of the kernel's loops.

Each rule takes what the step uses and gives, to whatever follows, what the step leaves. A wait
closes its cell at once, so it leaves the cell's counter at zero beside the duty's payload. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a device's code runs to. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The rule for a loop -/

theorem bigSep_first {M : Type} [URA M] {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]; rfl

/-- A loop that keeps `R` moving along its positions, taking each position's own resources and
leaving that position's results. -/
theorem wp_seqF (c : Dev nD) : ∀ (n : ℕ) (f : Fin n → Prog (TpuEff nD τ sig (Elt F) Λ₀ .tc) PUnit) (R : ℕ → sProp 𝕄)
    (pre post : Fin n → sProp 𝕄)
    (_ : ∀ i : Fin n, iprop(R i.val ∗ pre i) ⊢ wpc c (f i) fun _ => iprop(R (i.val + 1) ∗ post i)),
    iprop(R 0 ∗ bigSep Finset.univ pre) ⊢ wpc c (seqF n f) fun _ => iprop(R n ∗ bigSep Finset.univ post)
  | 0, f, R, pre, post, h => by
    unfold wpc seqF
    rw [wp_ret]
    iintro ⟨HR, -⟩
    imodintro
    isplitl [HR]; · iexact HR
    rw [show (Finset.univ : Finset (Fin 0)) = ∅ from rfl, bigSep_empty]; iempintro
  | n + 1, f, R, pre, post, h => by
    unfold wpc seqF
    rw [bigSep_first pre, bigSep_first post]
    change _ ⊢ wp _ _ _ ((f 0) >>= _) _
    rw [wp_bind]
    iintro ⟨HR, Hp, Hs⟩
    have h0 : iprop(R 0 ∗ pre 0) ⊢ wpc c (f 0) fun _ => iprop(R 1 ∗ post 0) := h 0
    ihave Hw := h0 $$ [HR Hp]
    · isplitl [HR] <;> iassumption
    iapply (wp_wand frame (wpE (defs₀ (F := F)) 𝒱₀ (c : Thread nD τ) none) Set.univ) $$ Hw
    iintro %u ⟨HR, Hq⟩
    ihave Hw := (wp_seqF c n (fun i => f i.succ) (fun i => R (i + 1)) (fun i => pre i.succ) (fun i => post i.succ)
      (fun i => h i.succ)) $$ [HR Hs]
    · isplitl [HR] <;> iassumption
    iapply (wp_wand frame (wpE (defs₀ (F := F)) 𝒱₀ (c : Thread nD τ) none) Set.univ) $$ Hw
    iintro %u ⟨HR, Hs⟩
    isplitl [HR]; · iexact HR
    isplitl [Hq] <;> iassumption

/-! ## What every step may use -/

variable (m : (ℓ : Loc nD τ sig) → Buf (Elt F) ℓ) (K : Dev nD × CI → ℕ)

/-- Every cell's invariant, and that its first round is reached. -/
def recs : sProp 𝕄 := bigSep Finset.univ fun x : Dev nD × CI =>
  iprop(cellInv ER (Rd m) (K x) (cell x.1 x.2) ∗ reached ER (cell x.1 x.2) 0)
def env : sProp 𝕄 := iprop(recs m K ∗ levAts L lv)

instance recs_persistent : Persistent (recs m K) := by unfold recs; infer_instance
instance env_persistent : Persistent (env m K) := by unfold env; infer_instance

theorem env_rec (c : Dev nD) (i : CI) :
    env m K ⊢ iprop(cellInv ER (Rd m) (K (c, i)) (cell c i) ∗ reached ER (cell c i) 0) := by
  unfold env recs
  iintro ⟨H, -⟩
  have h : (bigSep Finset.univ fun x : Dev nD × CI =>
      iprop(cellInv ER (Rd m) (K x) (cell x.1 x.2) ∗ reached ER (cell x.1 x.2) 0))
      ⊢ iprop(cellInv ER (Rd m) (K (c, i)) (cell c i) ∗ reached ER (cell c i) 0) := bigSep_elim (Finset.mem_univ (c, i))
  iapply h $$ H
theorem env_lev : env m K ⊢ levAts L lv := by
  unfold env
  iintro ⟨-, H⟩
  iexact H

theorem env_may (c : Dev nD) (sm : SemLoc sig) {cut : ℕ} {O : CellTallies nD τ sig Unit}
    (hs : (cidx sm).elim 0 lvC ≤ cut) (hO : Above cut O) : env m K ⊢ MayWait (c : Thread nD τ) sm () O :=
  BI.Entails.trans (env_lev m K) (mayWait c sm hs hO)

/-- Device `c` owes `O`, whatever it has waited for. -/
def ow (c : Dev nD) (O : CellTallies nD τ sig Unit) : sProp 𝕄 := iprop(∃ W, owes (c : Thread nD τ) O W)

/-! ## Signals, sends and waits -/

theorem duty_mem (c : Dev nD) (i : CI) (d : Fin 15) (h : d ∈ dutiesAt i) : d ∈ (Rd (F := F) m).duties (cell c i) 0 :=
  (duties_eq m c i).symm ▸ h

theorem pay_bar (c : Dev nD) (r : Fin 15) :
    iprop((∃ f, gP (F := F) c (rot c r) f) ∗ ∃ f, aP (F := F) c (rot c r) fullShare f) = pay m (rot c r) none r := by
  unfold pay
  dsimp only
  rw [rot_rev]

theorem rest_one (c : Dev nD) (q : Fin 4 × Fin 15) :
    bigSep ((Rd (F := F) m).duties (cell c (some q)) 0 \ ∅) (fun d => (Rd (F := F) m).payload (cell c (some q)) 0 d)
      = pay m c (some q) 0 :=
  (rest_eq m c (some q)).trans bigSep_singleton

theorem sendBar (c : Dev nD) (r : Fin 15) (O : CellTallies nD τ sig Unit) (Q : PUnit → sProp 𝕄) :
    iprop(env m K ∗ ow c (O + barPaid c r) ∗ dutyTok ER (cell (rot c r) none) 0 r
        ∗ (∃ f, gP (F := F) c (rot c r) f) ∗ ∃ f, aP (F := F) c (rot c r) fullShare f)
      ⊢ iprop((ow c O -∗ Q ⟨⟩) -∗ wpc c (signalStep c r) Q) := by
  unfold wpc signalStep ow
  rw [sigDev_eq]
  simp only [semSignalWord, Prog.lift, Prog.bind_op, Prog.bind_ret, Prog.pure_eq_ret]
  have hp : iprop((∃ f, gP (F := F) c (rot c r) f) ∗ ∃ f, aP (F := F) c (rot c r) fullShare f)
      ⊢ (Rd m).payload ((rot c r : Thread nD τ), .reg barS) 0 r :=
    Entails.of_eq ((pay_bar m c r).trans (payload_eq m (rot c r) none r).symm)
  iintro ⟨#He, ⟨%W, HO⟩, Ht, Hg, Ha⟩ Hk
  ihave #Hi := (env_rec m K (rot c r) none) $$ He
  icases Hi with ⟨#Hi, #Hr⟩
  iapply (Rounds.wp_signal 𝒱₀ ER (Rd m) (c : Thread nD τ) none (dst := (rot c r : Thread nD τ)) (κ := K (rot c r, none))
      (d := r) (duty_mem m (rot c r) none r (Finset.mem_univ _))
      ((amount_eq m (rot c r) none r).trans (by decide)) () O rfl) $$ [HO Ht Hg Ha]
  · isplitr; · iexact Hi
    isplitl [HO]; · iexact HO
    isplitl [Ht]; · iexact Ht
    isplitl [Hg Ha]
    · iapply hp
      isplitl [Hg] <;> iassumption
    iexact Hr
  iintro HO
  rw [wp_ret]; imodintro
  iapply Hk
  iexists W; iexact HO

/-- A wait for the one duty of a cell of the four arrays. -/
theorem waitCell (c : Dev nD) (k : Fin 4) (r : Fin 15) (sem : DmaSem sig) (hs : sem = dq k r)
    {sp sp' : Space} {s s' : Shape} {e e' : EltTy}
    (srcw : Memref sig .tc sp' s' e') (dstw : Memref sig .tc sp s e)
    (hsrc : srcw.view.WordExact) (hdst : dstw.view.WordExact) (hu : dstw.view.dmaCredit = units (some (k, r)))
    {cut : ℕ} (hc : lvC (some (k, r)) ≤ cut) {O : CellTallies nD τ sig Unit} (hO : Above cut O) (Q : PUnit → sProp 𝕄) :
    iprop(env m K ∗ ow c O ∗ cred (tallyAt (cell c (some (k, r))) () (units (some (k, r))))
        ∗ atPos ER (cell c (some (k, r))) 0 ∅ 0)
      ⊢ iprop((iprop(ow c O ∗ pay m c (some (k, r)) 0 ∗ semVal (cell c (some (k, r))) 0) -∗ Q ⟨⟩)
        -∗ wpc c (Prog.lift (.waitDma2 sem srcw dstw hsrc hdst)) Q) := by
  subst hs
  unfold wpc ow
  simp only [Prog.lift]
  have hw : ∀ Kk : PUnit → sProp 𝕄, wpE (defs₀ (F := F)) 𝒱₀ (c : Thread nD τ) none Set.univ
      (.waitDma2 (dq k r) srcw dstw hsrc hdst) Kk
      = waitSpec (c : Thread nD τ) Set.univ (csem (some (k, r))) (units (some (k, r))) Kk := fun Kk => by
    rw [← hu]; exact wpE_waitDma2_eq 𝒱₀ (c : Thread nD τ) none Set.univ Kk
  have hl : (cidx (csem (some (k, r)))).elim 0 lvC ≤ cut := (congrArg (fun o => Option.elim o 0 lvC) (cidx_csem _)).trans_le hc
  have hmw : env m K ⊢ MayWait (c : Thread nD τ) (csem (some (k, r))) () O :=
    env_may m K c (csem (some (k, r))) hl hO
  iintro ⟨#He, ⟨%W, HO⟩, Hc, Hat⟩ Hk
  ihave #Hi := (env_rec m K c (some (k, r))) $$ He
  icases Hi with ⟨#Hi, #Hr⟩
  iapply (Rounds.wp_wait_rest_token 𝒱₀ ER (Rd m) (c : Thread nD τ) none (κ := K (c, some (k, r)))
      hw (Set.mem_univ _) () (O := O) (W := W) (R := 0) (m := 0) (T := ∅)
      ((Nat.zero_add _).trans ((Nat.one_mul _).symm.trans (expect_eq m c (some (k, r))).symm))) $$ [Hc HO Hat]
  · isplitr; · iexact Hi
    isplitl [Hc]; · iexact Hc
    isplitl [HO]; · iexact HO
    isplitr
    · iapply hmw $$ He
    iexact Hat
  iintro ⟨HO, Hat, -, Hpay⟩
  imod (Rounds.cell_close ER (Rd m) (Set.mem_univ (K (c, some (k, r)))) (fun h => h) (R := 0 + 1)
    (duties_later m (cell c (some (k, r))))) $$ [Hat] with Hz
  · isplitr; · iexact Hi
    iexact Hat
  rw [wp_ret]; imodintro
  iapply Hk
  isplitl [HO]; · iexists _; iexact HO
  isplitl [Hpay]
  · ihave Hp := (Entails.of_eq (rest_one m c (k, r))) $$ Hpay
    iexact Hp
  iexact Hz

/-- The wait for the barrier's fifteen units. -/
theorem waitBar (c : Dev nD) {O : CellTallies nD τ sig Unit} (hO : Above 1 O) (Q : PUnit → sProp 𝕄) :
    iprop(env m K ∗ ow c O ∗ cred (tallyAt (cell c none) () 15) ∗ atPos ER (cell c none) 0 ∅ 0)
      ⊢ iprop((iprop(ow c O ∗ (bigSep Finset.univ fun r => pay m c none r) ∗ semVal (cell c none) 0) -∗ Q ⟨⟩)
        -∗ wpc c (semWaitWord barS 15#32) Q) := by
  unfold wpc ow
  simp only [semWaitWord, Prog.lift, Prog.bind_op, Prog.bind_ret, Prog.pure_eq_ret]
  have hmw : env m K ⊢ MayWait (c : Thread nD τ) (.reg barS) () O :=
    env_may m K c (.reg barS) ((congrArg (fun o => Option.elim o 0 lvC) (cidx_csem none)).trans_le (le_refl 1)) hO
  have hr : bigSep ((Rd (F := F) m).duties ((c : Thread nD τ), .reg barS) 0 \ ∅)
      (fun d => (Rd (F := F) m).payload ((c : Thread nD τ), .reg barS) 0 d)
      = bigSep Finset.univ fun r => pay m c none r := rest_eq m c none
  have he : 0 + 15 = (Rd (F := F) m).expect ((c : Thread nD τ), .reg barS) 0 := (expect_eq m c none).symm
  iintro ⟨#He, ⟨%W, HO⟩, Hc, Hat⟩ Hk
  ihave #Hi := (env_rec m K c none) $$ He
  icases Hi with ⟨#Hi, #Hr⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      he) $$ [Hc HO Hat]
  · isplitr; · iexact Hi
    isplitl [Hc]; · iexact Hc
    isplitl [HO]; · iexact HO
    isplitr
    · iapply hmw $$ He
    iexact Hat
  iintro ⟨HO, Hat, -, Hpay⟩
  imod (Rounds.cell_close ER (Rd m) (Set.mem_univ (K (c, none))) (fun h => h) (R := 0 + 1)
    (duties_later m (cell c none))) $$ [Hat] with Hz
  · isplitr; · iexact Hi
    iexact Hat
  rw [wp_ret]; imodintro
  iapply Hk
  isplitl [HO]; · iexists _; iexact HO
  isplitl [Hpay]
  · ihave Hp := (Entails.of_eq hr) $$ Hpay
    iexact Hp
  iexact Hz

/-! ### Copies to another device -/

theorem bP_eq (d : Dev nD) (b : Fin 16) (f : FVec F S4096x256 .bf16) :
    bP (F := F) d b f = ((bAt b).view.loc (d : Thread nD τ) ↦[(bAt b).view.set]{fullShare} f) := by
  rw [bAt_set]; rfl
theorem gP_eq (d : Dev nD) (b : Fin 16) (f : FVec F S16x256x256 .bf16) :
    gP (F := F) d b f = ((gAt b).view.loc (d : Thread nD τ) ↦[(gAt b).view.set]{fullShare} f) := by
  rw [gAt_set]; rfl
theorem aP_eq (d : Dev nD) (b : Fin 16) (q : PosShare TreeShare) (f : FVec F S16x128 .f32) :
    aP (F := F) d b q f = ((aAt b).view.loc (d : Thread nD τ) ↦[(aAt b).view.set]{q} f) := by
  rw [aAt_set]; rfl

/-- A copied block of data is the slot's contents. -/
theorem landed_data (c d : Dev nD) (fd : FVec F S16x256x256 .bf16) :
    ((gAt c).view.loc (d : Thread nD τ) ↦[(gAt c).view.set]{fullShare}
      ((gAt c).view.write (Elt F) fd ((bAt d).view.read (Elt F) (castX m c)) Finset.univ) : sProp 𝕄)
      = gP d c (gAll m d) := by
  rw [gP_eq]
  refine pointsTo_congr fun i hi => ?_
  obtain ⟨x, -, rfl⟩ := Finset.mem_map.mp hi
  refine (View.write_emb_of_mem (Val := Elt F) _ _ (Finset.mem_univ x)).trans ?_
  show castX m c ((bAt d).view.emb x) = gAll m d ((gAt c).view.emb x)
  rw [bAt_emb d x (row_lt d (x 0)), gAt_emb]
  rfl

/-- A copied row of maxima is the table's. -/
theorem landed_max (c d : Dev nD) (fd : FVec F S16x128 .f32) :
    ((aAt c).view.loc (d : Thread nD τ) ↦[(aAt c).view.set]{fullShare}
      ((aAt c).view.write (Elt F) fd ((aAt c).view.read (Elt F) (aAll m)) Finset.univ) : sProp 𝕄)
      = aP d c fullShare (aAll m) := by
  rw [aP_eq]
  refine pointsTo_congr fun i hi => ?_
  obtain ⟨x, -, rfl⟩ := Finset.mem_map.mp hi
  refine (View.write_emb_of_mem (Val := Elt F) _ _ (Finset.mem_univ x)).trans ?_
  rfl

/-- A copy to the device `r + 1` further, paying one duty of a cell of its own and one of that device's. -/
theorem sendCell (c : Dev nD) (r : Fin 15) (k k' : Fin 4) (u : ℕ) (hu : units (some (k, r)) = u)
    (hu' : units (some (k', r)) = u) {s : Shape} {e : EltTy} (src dst : Memref sig .tc .vmem s e)
    {hsc : dst.view.ref.isScScratch = false} {hsrc : src.view.WordExact} {hdst : dst.view.WordExact}
    {hsem : DmaTarget.Typed .vmem (.dma (dq k' r)) (.remote (Dev.tc (rot c r) : Thread nD τ) dst (.dma (dq k r)) hsc)}
    (hN : dst.view.amount (.dma (dq k' r) : SemLoc sig) = u) (q : PosShare TreeShare)
    (fs : Buf (Elt F) (src.view.loc (c : Thread nD τ))) (fd : Buf (Elt F) (dst.view.loc (rot c r : Thread nD τ)))
    (hp1 : (src.view.loc (c : Thread nD τ) ↦[src.view.set]{q} fs) ⊢ pay m c (some (k, r)) 0)
    (hp2 : (dst.view.loc (rot c r : Thread nD τ) ↦[dst.view.set]{fullShare}
      (dst.view.write (Elt F) fd (src.view.read (Elt F) fs) Finset.univ)) ⊢ pay m (rot c r) (some (k', r)) 0)
    (O : CellTallies nD τ sig Unit) (Q : PUnit → sProp 𝕄) :
    iprop(env m K ∗ ow c (O + tallyAt (cell (rot c r) (some (k', r))) () u)
        ∗ (src.view.loc (c : Thread nD τ) ↦[src.view.set]{q} fs)
        ∗ (dst.view.loc (rot c r : Thread nD τ) ↦[dst.view.set]{fullShare} fd)
        ∗ dutyTok ER (cell c (some (k, r))) 0 0 ∗ dutyTok ER (cell (rot c r) (some (k', r))) 0 0)
      ⊢ iprop((iprop(ow c O ∗ cred (tallyAt (cell c (some (k, r))) () u)) -∗ Q ⟨⟩)
        -∗ wpc c (Prog.lift (.enqueueDma src (.remote (Dev.tc (rot c r) : Thread nD τ) dst (.dma (dq k r)) hsc)
          (.dma (dq k' r)) hsrc hdst hsem)) Q) := by
  unfold wpc ow
  simp only [Prog.lift]
  have hd1 : (0 : Fin 15) ∈ (Rd (F := F) m).duties ((c : Thread nD τ), .dma (dq k r)) 0 :=
    duty_mem m c (some (k, r)) 0 (Finset.mem_singleton_self _)
  have hd2 : (0 : Fin 15) ∈ (Rd (F := F) m).duties ((rot c r : Thread nD τ), .dma (dq k' r)) 0 :=
    duty_mem m (rot c r) (some (k', r)) 0 (Finset.mem_singleton_self _)
  have ha1 : (Rd (F := F) m).amount ((c : Thread nD τ), .dma (dq k r)) 0 0 = u := (amount_eq m c (some (k, r)) 0).trans hu
  have ha2 : (Rd (F := F) m).amount ((rot c r : Thread nD τ), .dma (dq k' r)) 0 0 = u :=
    (amount_eq m (rot c r) (some (k', r)) 0).trans hu'
  have hp1' : (src.view.loc (c : Thread nD τ) ↦[src.view.set]{q} fs)
      ⊢ (Rd (F := F) m).payload ((c : Thread nD τ), .dma (dq k r)) 0 0 :=
    BI.Entails.trans hp1 (Entails.of_eq (payload_eq m c (some (k, r)) 0).symm)
  have hp2' : (dst.view.loc (rot c r : Thread nD τ) ↦[dst.view.set]{fullShare}
      (dst.view.write (Elt F) fd (src.view.read (Elt F) fs) Finset.univ))
      ⊢ (Rd (F := F) m).payload ((rot c r : Thread nD τ), .dma (dq k' r)) 0 0 :=
    BI.Entails.trans hp2 (Entails.of_eq (payload_eq m (rot c r) (some (k', r)) 0).symm)
  iintro ⟨#He, ⟨%W, HO⟩, Hb, Hg, Ht1, Ht2⟩ Hk
  ihave #Hi := (env_rec m K c (some (k, r))) $$ He
  icases Hi with ⟨#Hi1, #Hr1⟩
  ihave #Hi := (env_rec m K (rot c r) (some (k', r))) $$ He
  icases Hi with ⟨#Hi2, #Hr2⟩
  have rule := Rounds.wp_send_pointsTo (Q := Q) (defs := defs₀ (F := F)) 𝒱₀ ER (Rd m) (c : Thread nD τ) none (Γ := [])
      (Es := Set.univ) (κ₁ := K (c, some (k, r))) (κ₂ := K (rot c r, some (k', r))) (r₁ := 0) (r₂ := 0) (d₁ := 0) (d₂ := 0)
      (fd := fd) (k := Prog.ret) (hsc := hsc) (hsrc := hsrc) (hdst := hdst) (hsem := hsem) hd1 hd2
      () () u hN ha1 ha2 O rfl (W := W) hp1' hp2'
  iapply rule $$ [HO Hb Hg Ht1 Ht2]
  · isplitr; · iexact Hi1
    isplitr; · iexact Hi2
    isplitl [Hb]; · iexact Hb
    isplitl [Hg]; · iexact Hg
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [HO]; · iexists W; iexact HO
  iexact Hc

theorem sendData (c n : Dev nD) (r : Fin 15) (hn : n = rot c r)
    (src : Memref sig .tc .vmem S256x256 .bf16) (hs : src = bAt (rot c r))
    (dst : Memref sig .tc .vmem S256x256 .bf16) (hd : dst = gAt c)
    (sS sem : DmaSem sig) (h5 : sS = dq 0 r) (h6 : sem = dq 1 r)
    {hsc : dst.view.ref.isScScratch = false} {hsrc : src.view.WordExact} {hdst : dst.view.WordExact}
    {hsem : DmaTarget.Typed .vmem (.dma sem) (.remote (Dev.tc n : Thread nD τ) dst (.dma sS) hsc)}
    (O : CellTallies nD τ sig Unit) (Q : PUnit → sProp 𝕄) :
    iprop(env m K ∗ ow c (O + tallyAt (cell (rot c r) (some (1, r))) () N)
        ∗ bP c (rot c r) (castX m c) ∗ (∃ f, gP (F := F) (rot c r) c f)
        ∗ dutyTok ER (cell c (some (0, r))) 0 0 ∗ dutyTok ER (cell (rot c r) (some (1, r))) 0 0)
      ⊢ iprop((iprop(ow c O ∗ cred (tallyAt (cell c (some (0, r))) () N)) -∗ Q ⟨⟩)
        -∗ wpc c (Prog.lift (.enqueueDma src (.remote (Dev.tc n : Thread nD τ) dst (.dma sS) hsc) (.dma sem) hsrc hdst hsem)) Q) := by
  subst hn hs hd h5 h6
  have e2 : gP (rot c r) c (gAll m (rot c r)) = pay m (rot c r) (some (1, r)) 0 := by
    unfold pay; dsimp only; rw [rot_rev]; rfl
  iintro ⟨#He, HO, Hb, ⟨%fd, Hg⟩, Ht1, Ht2⟩ Hk
  ihave Hb := (Entails.of_eq (bP_eq c (rot c r) (castX m c))) $$ Hb
  ihave Hg := (Entails.of_eq (gP_eq (rot c r) c fd)) $$ Hg
  iapply (sendCell m K c r 0 1 N rfl rfl (bAt (rot c r)) (gAt c) (hsc := hsc) (hsrc := hsrc) (hdst := hdst) (hsem := hsem) rfl
    fullShare (castX m c) fd (Entails.of_eq (bP_eq c (rot c r) (castX m c)).symm)
    (Entails.of_eq ((landed_data m c (rot c r) fd).trans e2)) O Q) $$ [HO Hb Hg Ht1 Ht2]
  · isplitr; · iexact He
    isplitl [HO]; · iexact HO
    isplitl [Hb]; · iexact Hb
    isplitl [Hg]; · iexact Hg
    isplitl [Ht1] <;> iassumption
  iexact Hk

theorem sendMax (c n : Dev nD) (r : Fin 15) (hn : n = rot c r)
    (own : Memref sig .tc .vmem S1x128 .f32) (hs : own = aAt c) (sS sem : DmaSem sig) (h5 : sS = dq 2 r) (h6 : sem = dq 3 r)
    {hsc : own.view.ref.isScScratch = false} {hsrc hdst : own.view.WordExact}
    {hsem : DmaTarget.Typed .vmem (.dma sem) (.remote (Dev.tc n : Thread nD τ) own (.dma sS) hsc)}
    (O : CellTallies nD τ sig Unit) (Q : PUnit → sProp 𝕄) :
    iprop(env m K ∗ ow c (O + tallyAt (cell (rot c r) (some (3, r))) () NA)
        ∗ aP c c (lent r) (aAll m) ∗ (∃ f, aP (F := F) (rot c r) c fullShare f)
        ∗ dutyTok ER (cell c (some (2, r))) 0 0 ∗ dutyTok ER (cell (rot c r) (some (3, r))) 0 0)
      ⊢ iprop((iprop(ow c O ∗ cred (tallyAt (cell c (some (2, r))) () NA)) -∗ Q ⟨⟩)
        -∗ wpc c (Prog.lift (.enqueueDma own (.remote (Dev.tc n : Thread nD τ) own (.dma sS) hsc) (.dma sem) hsrc hdst hsem)) Q) := by
  subst hn hs h5 h6
  have e2 : aP (rot c r) c fullShare (aAll m) = pay m (rot c r) (some (3, r)) 0 := by
    unfold pay; dsimp only; rw [rot_rev]; rfl
  iintro ⟨#He, HO, Hb, ⟨%fd, Hg⟩, Ht1, Ht2⟩ Hk
  ihave Hb := (Entails.of_eq (aP_eq c c (lent r) (aAll m))) $$ Hb
  ihave Hg := (Entails.of_eq (aP_eq (rot c r) c fullShare fd)) $$ Hg
  iapply (sendCell m K c r 2 3 NA rfl rfl (aAt c) (aAt c) (hsc := hsc) (hsrc := hsrc) (hdst := hdst) (hsem := hsem) rfl
    (lent r) (aAll m) fd (Entails.of_eq (aP_eq c c (lent r) (aAll m)).symm)
    (Entails.of_eq ((landed_max m c (rot c r) fd).trans e2)) O Q) $$ [HO Hb Hg Ht1 Ht2]
  · isplitr; · iexact He
    isplitl [HO]; · iexact HO
    isplitl [Hb]; · iexact Hb
    isplitl [Hg]; · iexact Hg
    isplitl [Ht1] <;> iassumption
  iexact Hk

end Cert.KernelIdeal.Gen
end
-- ==== Proof.Local.lean ====
module

public import proofs.«01_k».proof.Proof.Steps

@[expose] public section

set_option maxRecDepth 8192

/-! Rules for the steps within a device: the copies of the weight, the loads, and the stores. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ)

/-! ## The weight's copies -/

/-- Each slot's copies read the weight through one half of the device's right to it. -/
def wHalf (p : Fin 2) : PosShare TreeShare := ![fullShare.left, fullShare.right] p

def wP (c : Dev nD) (p : Fin 2) (S : Finset (Idx ((c : Thread nD τ).loc main_arg1))) : sProp 𝕄 :=
  (c : Thread nD τ).loc main_arg1 ↦[S]{wHalf p} wstg m c
def vP (c : Dev nD) (p : Fin 2) (f : Buf (Elt F) ((c : Thread nD τ).loc cc0_scratch2)) : sProp 𝕄 :=
  (c : Thread nD τ).loc cc0_scratch2 ↦[(vRect p).set]{fullShare} f

/-- What slot `p` reads at, in a buffer. -/
abbrev vRead (p : Fin 2) (f : FVec F S2x256x8192 .f32) : FVec F S1x256x8192 .f32 :=
  vR.view.readAt (Elt F) (vRect p).toLoadRect f

/-- Slot `p` holding the block for offset `d`; the copy of that block into it, under way. -/
def vFull (c : Dev nD) (p : Fin 2) (d : Fin 16) : sProp 𝕄 :=
  iprop(∃ f : FVec F S2x256x8192 .f32, ⌜vRead p f = wVal m c d⌝ ∗ vP c p f)
def flying (c : Dev nD) (p : Fin 2) (d : Fin 16) : sProp 𝕄 :=
  iprop(∃ f : FVec F S2x256x8192 .f32, ⌜vRead p f = wVal m c d⌝
    ∗ Flight countersEmb (c : Thread nD τ) (.dma (wsemAt p)) () NW iprop(vP c p f ∗ wP m c p (wRect (back c d)).set)
    ∗ wP m c p (Finset.univ \ (wRect (back c d)).set))

/-- A copied block of the weight is what a load of the slot returns. -/
theorem landed_weight (c : Dev nD) (p : Fin 2) (d : Fin 16) (fd : FVec F S2x256x8192 .f32) :
    vRead p ((vSlot p).view.write (Elt F) fd ((wAt (back c d)).view.read (Elt F) (wstg m c)) Finset.univ) = wVal m c d := by
  funext x
  refine (View.read_apply (v := vR.view.slice (vRect p)) (Val := Elt F) _ x).trans ?_
  refine (cast_eq _ _).trans ?_
  have h0 : x 0 = (⟨0, Nat.one_pos⟩ : Fin 1) := @Subsingleton.elim (Fin 1) _ _ _
  have hx : (vRect p).emb x = (vSlot p).view.emb (ix2 (x 1) (x 2)) := by
    rw [vSlot_emb]
    exact congrArg (vRect p).emb ((eq_ix3 x).trans (by rw [h0]; rfl))
  refine (congrArg ((vSlot p).view.write (Elt F) fd ((wAt (back c d)).view.read (Elt F) (wstg m c)) Finset.univ) hx).trans ?_
  refine (View.write_emb_of_mem (Val := Elt F) _ _ (Finset.mem_univ _)).trans ?_
  show wstg m c ((wAt (back c d)).view.emb (ix2 (x 1) (x 2))) = _
  rw [wAt_emb (back c d) (ix2 (x 1) (x 2)) (row_lt (back c d) (x 1))]
  rfl

theorem wP_split (c : Dev nD) (p : Fin 2) (b : Fin 16) :
    (wP m c p Finset.univ : sProp 𝕄) ⊣⊢ iprop(wP m c p (wRect b).set ∗ wP m c p (Finset.univ \ (wRect b).set)) :=
  pointsTo_split_subset (Finset.subset_univ _)

theorem fetch_from (c : Dev nD) (d : Fin 16) (p : Fin 2) (src : Memref sig .tc .hbm S256x8192 .f32)
    (hs : src = wAt (back c d)) {hw : src.view.WordExact} {hdst : (vSlot p).view.WordExact}
    {hsem : DmaTarget.Typed (nD := nD) (τ := τ) (p := .tc) .hbm (.dma (wsemAt p)) (.here (vSlot p))} (Q : PUnit → sProp 𝕄) :
    iprop(wP m c p Finset.univ ∗ (∃ f, vP (F := F) c p f) ∗ semVal ((c : Thread nD τ), .dma (wsemAt p)) 0)
      ⊢ iprop((flying m c p d -∗ Q ⟨⟩)
        -∗ wpc c (Prog.lift (.enqueueDma src (.here (vSlot p)) (.dma (wsemAt p)) hw hdst hsem)) Q) := by
  subst hs
  unfold wpc
  simp only [Prog.lift]
  have hsrc : ((wAt (back c d)).view.loc (c : Thread nD τ) ↦[(wAt (back c d)).view.set]{wHalf p} wstg m c)
      = (wP m c p (wRect (back c d)).set : sProp 𝕄) := by rw [wAt_set]; rfl
  iintro ⟨Hw, ⟨%fd, Hv⟩, Hz⟩ Hk
  ihave Hw := (wP_split m c p (back c d)).1 $$ Hw
  icases Hw with ⟨Hw, Hr⟩
  have rule := Transfers.wp_dmaLocal (Q := Q) (defs := defs₀ (F := F)) countersEmb 𝒱₀ (c : Thread nD τ) none
    (src := wAt (back c d)) (via := .same) (dst := vSlot p) (sm := .dma (wsemAt p)) (hsrc := hw)
    (hdst := hdst) (hsem := hsem) (k := Prog.ret) (q := wHalf p)
    (fs := wstg m c) (Sd := (vRect p).set) (fd := fd) () NW rfl NW_pos (vSlot_set p).subset
  rw [hsrc] at rule
  have rule' : iprop(wP m c p (wRect (back c d)).set ∗ vP c p fd ∗ semVal ((c : Thread nD τ), .dma (wsemAt p)) 0)
      ⊢ iprop((Flight countersEmb (c : Thread nD τ) (.dma (wsemAt p)) () NW iprop(vP c p ((vSlot p).view.write (Elt F) fd
          ((wAt (back c d)).view.read (Elt F) (wstg m c)) Finset.univ) ∗ wP m c p (wRect (back c d)).set)
        -∗ wpc c (Prog.ret PUnit.unit) Q)
        -∗ wpc c (Prog.op (.enqueueDma (wAt (back c d)) (.here (vSlot p)) (.dma (wsemAt p)) hw hdst hsem) Prog.ret) Q) := rule
  iapply rule' $$ [Hw Hv Hz]
  · isplitl [Hw]; · iexact Hw
    isplitl [Hv]; · iexact Hv
    iexact Hz
  iintro Hf
  unfold wpc
  rw [wp_ret]; imodintro
  iapply Hk
  unfold flying
  iexists _
  isplitr; · ipureintro; exact landed_weight m c p d fd
  isplitl [Hf]; · iexact Hf
  iexact Hr

theorem fetch_ok (c : Dev nD) (d : Fin 16) (p : Fin 2) (Q : PUnit → sProp 𝕄) :
    iprop(wP m c p Finset.univ ∗ (∃ f, vP (F := F) c p f) ∗ semVal ((c : Thread nD τ), .dma (wsemAt p)) 0)
      ⊢ iprop((flying m c p d -∗ Q ⟨⟩) -∗ wpc c (fetchW c d p) Q) :=
  fetch_from m c d p (wBlk c d) (wBlk_eq c d) Q

theorem waitW_ok (c : Dev nD) (d : Fin 16) (p : Fin 2) {O : CellTallies nD τ sig Unit} (hO : Above 0 O) (Q : PUnit → sProp 𝕄) :
    iprop(env m K ∗ ow c O ∗ flying m c p d)
      ⊢ iprop((iprop(ow c O ∗ vFull m c p d ∗ wP m c p Finset.univ ∗ semVal ((c : Thread nD τ), .dma (wsemAt p)) 0) -∗ Q ⟨⟩)
        -∗ wpc c (waitW c d p) Q) := by
  unfold waitW wpc flying ow
  simp only [Prog.lift]
  have hmw : env m K ⊢ MayWait (c : Thread nD τ) (.dma (wsemAt p)) () O :=
    env_may m K c (.dma (wsemAt p)) ((congrArg (fun o => Option.elim o 0 lvC) (cidx_wsem p)).trans_le (le_refl 0)) hO
  iintro ⟨#He, ⟨%W, HO⟩, ⟨%f, %hf, Hf, Hr⟩⟩ Hk
  have rule := Transfers.wp_waitLocalO (Q := Q) (defs := defs₀ (F := F)) countersEmb 𝒱₀ (c : Thread nD τ) none
    (sem := wsemAt p) (srcw := wBlk c d) (dstw := vSlot p) (hsrc := View.wordExact_bits rfl)
    (hdst := (View.wordExact_bits rfl).reshape _ _) (k := Prog.ret) () (N := NW) rfl
    (D := iprop(vP c p f ∗ wP m c p (wRect (back c d)).set)) (O := O) (W := W)
  iapply rule $$ [HO Hf]
  · isplitl [Hf]; · iexact Hf
    isplitl [HO]; · iexact HO
    iapply hmw $$ He
  iintro ⟨⟨Hv, Hw⟩, Hz, HO⟩
  rw [wp_ret]; imodintro
  iapply Hk
  isplitl [HO]; · iexists _; iexact HO
  isplitl [Hv]
  · unfold vFull
    iexists f
    isplitr; · ipureintro; exact hf
    iexact Hv
  isplitl [Hw Hr]
  · iapply (wP_split m c p (back c d)).2
    isplitl [Hw] <;> iassumption
  iexact Hz

/-! ## Loads and stores -/

def oP (c : Dev nD) (f : FVec F S256x8192 .f32) : sProp 𝕄 := (c : Thread nD τ).loc cc0_stg1_0 ↦{fullShare} f

theorem origin2 : (![0, 0] : Fin 2 → Nat) = fun _ => 0 := by
  funext a; match a with
  | ⟨0, _⟩ => rfl
  | ⟨1, _⟩ => rfl

/-- A load leaves what it read and returns it; a store leaves what it wrote. -/
theorem load_any (c : Dev nD) {cs : CoreSpace} {s : Shape} {e : EltTy} (mm : Memref sig .tc cs s e) (r : LoadRect s)
    {hl : mm.view.LoadsAt r} {S : Finset (Idx (mm.view.loc (c : Thread nD τ)))} {q : PosShare TreeShare}
    {f : Buf (Elt F) (mm.view.loc (c : Thread nD τ))} (hS : mm.view.setOn r.set ⊆ S) (v : r.shape.Idx → Elt F e)
    (hv : mm.view.readAt (Elt F) r f = v) (Q : (r.shape.Idx → Elt F e) → sProp 𝕄) :
    (mm.view.loc (c : Thread nD τ) ↦[S]{q} f)
      ⊢ iprop(((mm.view.loc (c : Thread nD τ) ↦[S]{q} f) -∗ Q v) -∗ wpc c (Prog.lift (.load mm r hl)) Q) := by
  unfold wpc
  simp only [Prog.lift]
  iintro H Hk
  iapply (wp_load 𝒱₀ (c : Thread nD τ) none Set.univ (m := mm) hS) $$ H
  iintro H
  rw [wp_ret, hv]; imodintro
  iapply Hk
  iexact H

theorem store_any (c : Dev nD) {cs : CoreSpace} {s : Shape} {e : EltTy} (mm : Memref sig .tc cs s e) (r : Rect s)
    (w : r.shape.Idx → Elt F e) {hx : (mm.access r).Stores Finset.univ}
    {hm : (Finset.univ : Finset r.shape.Idx) = Finset.univ ∨ ∀ a : Fin s.rank, r.stride a = 1}
    {S : Finset (Idx ((mm.access r).loc (c : Thread nD τ)))}
    {f : Buf (Elt F) ((mm.access r).loc (c : Thread nD τ))} (hS : (mm.access r).setOn Finset.univ ⊆ S)
    (f' : Buf (Elt F) ((mm.access r).loc (c : Thread nD τ)))
    (hf : ((mm.access r).loc (c : Thread nD τ) ↦[S]{fullShare} (mm.access r).write (Elt F) f w Finset.univ : sProp 𝕄)
      = ((mm.access r).loc (c : Thread nD τ) ↦[S]{fullShare} f')) (Q : PUnit → sProp 𝕄) :
    ((mm.access r).loc (c : Thread nD τ) ↦[S]{fullShare} f)
      ⊢ iprop((((mm.access r).loc (c : Thread nD τ) ↦[S]{fullShare} f') -∗ Q ⟨⟩)
        -∗ wpc c (Prog.lift (.store mm r w Finset.univ hx hm)) Q) := by
  unfold wpc
  simp only [Prog.lift]
  iintro H Hk
  iapply (wp_store 𝒱₀ (c : Thread nD τ) none Set.univ (m := mm) (r := r) (Mk := Finset.univ) hS) $$ H
  iintro H
  ihave H := (Entails.of_eq hf) $$ H
  rw [wp_ret]; imodintro
  iapply Hk
  iexact H

/-- A rectangle at slot `b`'s offset reads slot `b`. -/
theorem gRead (b : Fin 16) (off : Fin 3 → Nat) (h : off = ![b.val, 0, 0])
    (p : ∀ a, off a + S1x256x256.size a ≤ S16x256x256.size a) (f : FVec F S16x256x256 .bf16) :
    gR.view.setOn (Rect.unit (s := S16x256x256) off S1x256x256.size p).toLoadRect.set ⊆ (gRect b).set
      ∧ gR.view.readAt (Elt F) (Rect.unit (s := S16x256x256) off S1x256x256.size p).toLoadRect f
        = fun x => f (ix3 b (x 1) (x 2)) := by
  subst h
  refine ⟨gSetOn b, funext fun x => ?_⟩
  refine (View.read_apply (v := gR.view.slice (gRect b)) (Val := Elt F) _ x).trans ?_
  refine (cast_eq _ _).trans ?_
  exact congrArg f (gRect_emb b x)

theorem loadG_ok (c : Dev nD) (d b : Fin 16) (hb : back c d = b) (Q : Vec F S1x256x256 .bf16 → sProp 𝕄) :
    gP c b (gAll m c) ⊢ iprop((gP c b (gAll m c) -∗ Q (gVal m c d)) -∗ wpc c (loadG c d) Q) := by
  subst hb
  have h := gRead (back c d) _ (off6_eq c d) (k0_off6_inb c d) (gAll m c)
  exact load_any c gR _ h.1 (gVal m c d) h.2 Q

theorem loadV_ok (c : Dev nD) (p : Fin 2) (d : Fin 16) (Q : Vec F S1x256x8192 .f32 → sProp 𝕄) :
    vFull m c p d ⊢ iprop(((∃ f, vP (F := F) c p f) -∗ Q (wVal m c d)) -∗ wpc c (loadV p) Q) := by
  have h : ∀ f : FVec F S2x256x8192 .f32, vRead p f = wVal m c d →
      vP c p f ⊢ iprop((vP c p f -∗ Q (wVal m c d)) -∗ wpc c (loadV p) Q) := fun f hf =>
    load_any c vR _ (vSetOn p) (wVal m c d) hf Q
  unfold vFull
  iintro ⟨%f, %hf, Hv⟩ Hk
  iapply (h f hf) $$ Hv
  iintro Hv
  iapply Hk
  iexists f; iexact Hv

abbrev oRect : Rect S256x8192 := Rect.unit (s := S256x8192) ![0, 0] S256x8192.size inb_S256x8192_S256x8192_0_0

theorem loadO_ok (c : Dev nD) (f : FVec F S256x8192 .f32) (Q : Vec F S256x8192 .f32 → sProp 𝕄) :
    oP c f ⊢ iprop((oP c f -∗ Q f) -∗ wpc c loadO Q) := by
  have hr : oR.view.readAt (Elt F) oRect.toLoadRect f = f := Memref.readAt_unit_zero (Elt F) cc0_stg1_0 origin2 _ f
  unfold oP loadO
  exact load_any c oR oRect.toLoadRect (S := Finset.univ) (q := fullShare) (f := f) (Finset.subset_univ _) f hr Q

theorem storeO_ok (c : Dev nD) (f v : FVec F S256x8192 .f32) (Q : PUnit → sProp 𝕄) :
    oP c f ⊢ iprop((oP c v -∗ Q ⟨⟩) -∗ wpc c (storeO v) Q) := by
  have hr : (oR.access oRect).write (Elt F) f v Finset.univ = v :=
    Memref.write_access_unit_zero_univ (Elt F) cc0_stg1_0 origin2 _ f v
  unfold oP storeO
  exact store_any c oR oRect v (S := Finset.univ) (f := f) (Finset.subset_univ _) v (by rw [hr]) Q

end Cert.KernelIdeal.Gen
end
-- ==== Proof.Phases.lean ====
module

public import proofs.«01_k».proof.Proof.Local

@[expose] public section

set_option maxRecDepth 8192

/-! The kernel's loops, each as one rule. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The barrier's signals and the copies out -/

/-- What the signal to the device `r + 1` further uses. -/
def sigPre (c : Dev nD) (r : Fin 15) : sProp 𝕄 :=
  iprop(dutyTok ER (cell (rot c r) none) 0 r ∗ (∃ f, gP (F := F) c (rot c r) f) ∗ ∃ f, aP (F := F) c (rot c r) fullShare f)

theorem signals_ok (c : Dev nD) :
    iprop((env m K ∗ ow c (O₀ c)) ∗ bigSep Finset.univ (sigPre (F := F) c))
      ⊢ wpc c (seqF 15 (signalStep c)) fun _ => iprop((env m K ∗ ow c (O₁ c)) ∗ bigSep Finset.univ fun _ : Fin 15 => (iprop(emp) : sProp 𝕄)) := by
  have h := wp_seqF c 15 (signalStep (F := F) c) (fun i => iprop(env m K ∗ ow c (from_ (barPaid c) i + O₁ c)))
    (sigPre c) (fun _ => iprop(emp)) fun r => by
    have e : from_ (barPaid c) r.val + O₁ c = from_ (barPaid c) (r.val + 1) + O₁ c + barPaid c r := by
      rw [from_peel, add_right_comm]
    try dsimp only
    rw [e]
    unfold sigPre
    iintro ⟨⟨#He, HO⟩, Ht, Hg, Ha⟩
    iapply (sendBar m K c r (from_ (barPaid c) (r.val + 1) + O₁ c)) $$ [HO Ht Hg Ha]
    · isplitr; · iexact He
      isplitl [HO]; · iexact HO
      isplitl [Ht]; · iexact Ht
      isplitl [Hg] <;> iassumption
    iintro HO
    isplitl [HO]
    · isplitr; · iexact He
      iexact HO
    iempintro
  try dsimp only at h
  rw [from_end, zero_add] at h
  exact h

/-- What position `j`'s copy out uses. -/
def datPre (c : Dev nD) (j : Fin 15) : sProp 𝕄 :=
  iprop(bP c (rot c (ordD j)) (castX m c) ∗ (∃ f, gP (F := F) (rot c (ordD j)) c f)
    ∗ dutyTok ER (cell c (some (0, ordD j))) 0 0 ∗ dutyTok ER (cell (rot c (ordD j)) (some (1, ordD j))) 0 0)

theorem sends_ok (c : Dev nD) :
    iprop((env m K ∗ ow c (O₁ c)) ∗ bigSep Finset.univ (datPre m c))
      ⊢ wpc c (seqF 15 (sendStep c)) fun _ => iprop((env m K ∗ ow c (O₂ c))
        ∗ bigSep Finset.univ fun j : Fin 15 => (cred (tallyAt (cell c (some (0, ordD j))) () N) : sProp 𝕄)) := by
  have h := wp_seqF c 15 (sendStep (F := F) c) (fun i => iprop(env m K ∗ ow c (from_ (datPaid c) i + O₂ c)))
    (datPre m c) (fun j : Fin 15 => (cred (tallyAt (cell c (some (0, ordD j))) () N) : sProp 𝕄)) fun j => by
    have e : from_ (datPaid c) j.val + O₂ c = from_ (datPaid c) (j.val + 1) + O₂ c + datPaid c j := by
      rw [from_peel, add_right_comm]
    try dsimp only
    rw [e]
    unfold datPre datPaid
    iintro ⟨⟨#He, HO⟩, Hb, Hg, Ht1, Ht2⟩
    unfold sendStep
    iapply (sendData m K c (datDev c j) (ordD j) (datDev_eq c j) (bBlk c (ordD j)) (bBlk_eq c (ordD j)) (gOwn c) (gOwn_eq c)
      (semAt cc0_scratch5 (ordD j)) (semAt cc0_scratch6 (ordD j)) (semAt5 _) (semAt6 _)
      (from_ (datPaid c) (j.val + 1) + O₂ c)) $$ [HO Hb Hg Ht1 Ht2]
    · isplitr; · iexact He
      isplitl [HO]; · iexact HO
      isplitl [Hb]; · iexact Hb
      isplitl [Hg]; · iexact Hg
      isplitl [Ht1] <;> iassumption
    iintro ⟨HO, Hc⟩
    isplitl [HO]
    · isplitr; · iexact He
      iexact HO
    iexact Hc
  try dsimp only at h
  rw [from_end, zero_add] at h
  exact h

def maxPre (c : Dev nD) (r : Fin 15) : sProp 𝕄 :=
  iprop(aP c c (lent r) (aAll m) ∗ (∃ f, aP (F := F) (rot c r) c fullShare f)
    ∗ dutyTok ER (cell c (some (2, r))) 0 0 ∗ dutyTok ER (cell (rot c r) (some (3, r))) 0 0)

theorem maxSends_ok (c : Dev nD) :
    iprop((env m K ∗ ow c (O₂ c)) ∗ bigSep Finset.univ (maxPre m c))
      ⊢ wpc c (seqF 15 (maxSend c)) fun _ => iprop((env m K ∗ ow c 0)
        ∗ bigSep Finset.univ fun r : Fin 15 => (cred (tallyAt (cell c (some (2, r))) () NA) : sProp 𝕄)) := by
  have h := wp_seqF c 15 (maxSend (F := F) c) (fun i => iprop(env m K ∗ ow c (from_ (maxPaid c) i)))
    (maxPre m c) (fun r : Fin 15 => (cred (tallyAt (cell c (some (2, r))) () NA) : sProp 𝕄)) fun r => by
    try dsimp only
    rw [from_peel]
    unfold maxPre
    iintro ⟨⟨#He, HO⟩, Hb, Hg, Ht1, Ht2⟩
    unfold maxSend
    iapply (sendMax m K c (maxDev c r) r (maxDev_eq c r) (aOwn c) (aOwn_eq c)
      (semAt cc0_scratch7 r) (semAt cc0_scratch8 r) (semAt7 _) (semAt8 _)
      (from_ (maxPaid c) (r.val + 1))) $$ [HO Hb Hg Ht1 Ht2]
    · isplitr; · iexact He
      isplitl [HO]; · iexact HO
      isplitl [Hb]; · iexact Hb
      isplitl [Hg]; · iexact Hg
      isplitl [Ht1] <;> iassumption
    iintro ⟨HO, Hc⟩
    isplitl [HO]
    · isplitr; · iexact He
      iexact HO
    iexact Hc
  try dsimp only at h
  rw [from_end] at h
  exact h

/-! ## The waits -/

/-- What a wait at a cell uses, and what it leaves. -/
def waitPre (c : Dev nD) (k : Fin 4) (r : Fin 15) : sProp 𝕄 :=
  iprop(cred (tallyAt (cell c (some (k, r))) () (units (some (k, r)))) ∗ atPos ER (cell c (some (k, r))) 0 ∅ 0)
def waitPost (c : Dev nD) (k : Fin 4) (r : Fin 15) : sProp 𝕄 :=
  iprop(pay m c (some (k, r)) 0 ∗ semVal (cell c (some (k, r))) 0)

/-- A loop of waits at the cells of one array, in some order. -/
theorem waits_ok (c : Dev nD) (k : Fin 4) (ord : Fin 15 → Fin 15) (f : Fin 15 → Prog (TpuEff nD τ sig (Elt F) Λ₀ .tc) PUnit)
    (O : CellTallies nD τ sig Unit)
    (hf : ∀ j (Q : PUnit → sProp 𝕄), iprop(env m K ∗ ow c O ∗ waitPre c k (ord j))
      ⊢ iprop((iprop(ow c O ∗ waitPost m c k (ord j)) -∗ Q ⟨⟩) -∗ wpc c (f j) Q)) :
    iprop((env m K ∗ ow c O) ∗ bigSep Finset.univ fun j => waitPre c k (ord j))
      ⊢ wpc c (seqF 15 f) fun _ => iprop((env m K ∗ ow c O) ∗ bigSep Finset.univ fun j => waitPost m c k (ord j)) :=
  wp_seqF c 15 f (fun _ => iprop(env m K ∗ ow c O)) _ _ fun j => by
    try dsimp only
    iintro ⟨⟨#He, HO⟩, Hp⟩
    iapply (hf j) $$ [HO Hp]
    · isplitr; · iexact He
      isplitl [HO] <;> iassumption
    iintro ⟨HO, Hq⟩
    isplitl [HO]
    · isplitr; · iexact He
      iexact HO
    iexact Hq

theorem wait_step (c : Dev nD) (k : Fin 4) (r : Fin 15) (sem : DmaSem sig) (hs : sem = dq k r)
    {sp sp' : Space} {s s' : Shape} {e e' : EltTy}
    (srcw : Memref sig .tc sp' s' e') (dstw : Memref sig .tc sp s e)
    (hsrc : srcw.view.WordExact) (hdst : dstw.view.WordExact) (hu : dstw.view.dmaCredit = units (some (k, r)))
    {cut : ℕ} (hc : lvC (some (k, r)) ≤ cut) {O : CellTallies nD τ sig Unit} (hO : Above cut O) (Q : PUnit → sProp 𝕄) :
    iprop(env m K ∗ ow c O ∗ waitPre c k r)
      ⊢ iprop((iprop(ow c O ∗ waitPost m c k r) -∗ Q ⟨⟩)
        -∗ wpc c (Prog.lift (.waitDma2 sem srcw dstw hsrc hdst)) Q) :=
  waitCell m K c k r sem hs srcw dstw hsrc hdst hu hc hO Q

theorem recvWait_ok (c : Dev nD) (j : Fin 15) (Q : PUnit → sProp 𝕄) :
    iprop(env m K ∗ ow c (O₂ c) ∗ waitPre c 1 (ordD j))
      ⊢ iprop((iprop(ow c (O₂ c) ∗ waitPost m c 1 (ordD j)) -∗ Q ⟨⟩) -∗ wpc c (recvWait c j) Q) :=
  wait_step m K c 1 (ordD j) _ (semAt6 _) _ _ _ _ (by rw [gFrom_eq]; rfl) (le_refl 2) (above_O₂ c) Q

theorem sentWait_ok (c : Dev nD) (j : Fin 15) (Q : PUnit → sProp 𝕄) :
    iprop(env m K ∗ ow c (O₂ c) ∗ waitPre c 0 (ordD j))
      ⊢ iprop((iprop(ow c (O₂ c) ∗ waitPost m c 0 (ordD j)) -∗ Q ⟨⟩) -∗ wpc c (sentWait c j) Q) :=
  wait_step m K c 0 (ordD j) _ (semAt5 _) _ _ _ _ (by rw [bBlk_eq]; rfl) (Nat.zero_le 2) (above_O₂ c) Q

theorem maxWait_ok (c : Dev nD) (r : Fin 15) (Q : PUnit → sProp 𝕄) :
    iprop(env m K ∗ ow c 0 ∗ waitPre c 3 r)
      ⊢ iprop((iprop(ow c 0 ∗ waitPost m c 3 r) -∗ Q ⟨⟩) -∗ wpc c (maxWait c r) Q) :=
  wait_step m K c 3 r _ (semAt8 _) _ _ _ _ (by rw [aFrom_eq]; rfl) (le_refl 3) (above_zero 3) Q

theorem maxSentWait_ok (c : Dev nD) (r : Fin 15) (Q : PUnit → sProp 𝕄) :
    iprop(env m K ∗ ow c 0 ∗ waitPre c 2 r)
      ⊢ iprop((iprop(ow c 0 ∗ waitPost m c 2 r) -∗ Q ⟨⟩) -∗ wpc c (maxSentWait c r) Q) :=
  wait_step m K c 2 r _ (semAt7 _) _ _ _ _ (by rw [aOwn_eq]; rfl) (Nat.zero_le 3) (above_zero 3) Q

/-! ## The accumulation -/

/-- What a step of the accumulation does once its data has come: the waits, the loads, `ahead`, and the store. -/
def accState (c : Dev nD) (i : ℕ) : sProp 𝕄 :=
  iprop((env m K ∗ ow c (O₂ c)) ∗ flying m c (slotOf (i + 1)) (ordN (i + 1)) ∗ flying m c (slotOf (i + 2)) (ordN (i + 2))
    ∗ oP c (acc m c i))

theorem slot_at (c : Dev nD) (j : Fin 15) (d : Fin 16) (hd : d = ordI j.succ) : back c d = rot c (ordD j).rev :=
  hd ▸ back_ordD c j

theorem pay1_eq (c : Dev nD) (r : Fin 15) : pay m c (some (1, r)) 0 = gP c (rot c r.rev) (gAll m c) := rfl

theorem accSteps_ok (c : Dev nD) :
    iprop(accState m K c 0 ∗ bigSep Finset.univ fun i : Fin 13 => waitPre (F := F) c 1 (ordD (Fin.castLE (by decide) i)))
      ⊢ wpc c (seqF 13 (accStep c)) fun _ => iprop(accState m K c 13
        ∗ bigSep Finset.univ fun i : Fin 13 => waitPost m c 1 (ordD (Fin.castLE (by decide) i))) :=
  wp_seqF c 13 (accStep c) (accState m K c) _ _ fun i => by
    have e1 : ordI (Fin.castLE (by decide) i.succ) = ordN (i.val + 1) :=
      congrArg ordI (Fin.ext (Nat.mod_eq_of_lt (by have := i.isLt; show i.val + 1 < 16; omega)).symm)
    have e3 : ordI (Fin.castLE (by decide) i.succ.succ.succ) = ordN (i.val + 3) :=
      congrArg ordI (Fin.ext (Nat.mod_eq_of_lt (by have := i.isLt; show i.val + 3 < 16; omega)).symm)
    have es : slotOf (i.val + 1 + 2) = slotOf (i.val + 1) := Fin.ext (Nat.add_mod_right _ _)
    have hb : back c (ordN (i.val + 1)) = rot c (ordD (Fin.castLE (by decide) i)).rev :=
      slot_at c (Fin.castLE (by decide) i) _ (e1.symm.trans (congrArg ordI (Fin.ext rfl)))
    unfold accStep accState wpc waitPost
    simp only [wp_bind]
    rw [e1, e3, es, pay1_eq]
    iintro ⟨⟨⟨#He, HO⟩, Hf1, Hf2, Ho⟩, Hp⟩
    iapply (recvWait_ok m K c (Fin.castLE _ i)) $$ [HO Hp]
    · isplitr; · iexact He
      isplitl [HO] <;> iassumption
    unfold waitPost
    rw [pay1_eq]
    iintro ⟨HO, Hg, Hz⟩
    iapply (waitW_ok m K c (ordN (i.val + 1)) (slotOf (i.val + 1)) (above_mono (by decide) (above_O₂ c))) $$ [HO Hf1]
    · isplitr; · iexact He
      isplitl [HO] <;> iassumption
    iintro ⟨HO, Hv, Hw, Hs⟩
    iapply (loadG_ok m c (ordN (i.val + 1)) _ hb) $$ Hg
    iintro Hg
    iapply (loadV_ok m c (slotOf (i.val + 1)) (ordN (i.val + 1))) $$ Hv
    iintro Hv
    iapply (fetch_ok m c (ordN (i.val + 3)) (slotOf (i.val + 1))) $$ [Hv Hw Hs]
    · isplitl [Hw]; · iexact Hw
      isplitl [Hv] <;> iassumption
    iintro Hf3
    iapply (loadO_ok c (acc m c i.val)) $$ Ho
    iintro Ho
    iapply (loadO_ok c (acc m c i.val)) $$ Ho
    iintro Ho
    iapply (storeO_ok c (acc m c i.val)) $$ Ho
    iintro Ho
    isplitl [HO Hf2 Hf3 Ho]
    · isplitl [HO]
      · isplitr; · iexact He
        iexact HO
      isplitl [Hf2]; · iexact Hf2
      isplitl [Hf3]; · iexact Hf3
      iexact Ho
    isplitl [Hg] <;> iassumption

end Cert.KernelIdeal.Gen
end
-- ==== Proof.Parts.lean ====
module

public import proofs.«01_k».proof.Proof.Phases
public import Idealize.ShloMosaic.Lib.Pipeline.Value

@[expose] public section

set_option maxRecDepth 8192

/-! The kernel's straight parts, each as one rule. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The first step and the last two -/

/-- The weight's double buffer at rest: a slot, the slot's share of the weight, and its semaphore. -/
def idle (c : Dev nD) (p : Fin 2) : sProp 𝕄 :=
  iprop(wP m c p Finset.univ ∗ (∃ f, vP (F := F) c p f) ∗ semVal ((c : Thread nD τ), .dma (wsemAt p)) 0)

theorem accFirst_ok (c : Dev nD) :
    iprop((env m K ∗ ow c (O₂ c)) ∗ flying m c 0 0 ∗ gP c c (gAll m c) ∗ ∃ f, oP (F := F) c f)
      ⊢ wpc c (accFirst c) fun _ => iprop((env m K ∗ ow c (O₂ c)) ∗ flying m c 0 15 ∗ gP c c (gAll m c) ∗ oP c (acc m c 0)) := by
  unfold accFirst wpc
  simp only [wp_bind]
  iintro ⟨⟨#He, HO⟩, Hf, Hg, ⟨%f, Ho⟩⟩
  iapply (waitW_ok m K c 0 0 (above_mono (by decide) (above_O₂ c))) $$ [HO Hf]
  · isplitr; · iexact He
    isplitl [HO] <;> iassumption
  iintro ⟨HO, Hv, Hw, Hs⟩
  iapply (loadG_ok m c 0 c (back_zero c)) $$ Hg
  iintro Hg
  iapply (loadV_ok m c 0 0) $$ Hv
  iintro Hv
  iapply (fetch_ok m c 15 0) $$ [Hv Hw Hs]
  · isplitl [Hw]; · iexact Hw
    isplitl [Hv] <;> iassumption
  iintro Hf
  iapply (loadO_ok c f) $$ Ho
  iintro Ho
  iapply (storeO_ok c f) $$ Ho
  iintro Ho
  isplitl [HO]
  · isplitr; · iexact He
    iexact HO
  isplitl [Hf]; · iexact Hf
  isplitl [Hg]; · iexact Hg
  iexact Ho

def lastPre (c : Dev nD) (i : Fin 2) : sProp 𝕄 :=
  iprop(waitPre c 1 (ordD (Fin.natAdd 13 i)) ∗ flying m c (slotOf i.val) (ordI (Fin.natAdd 14 i)))
def lastPost (c : Dev nD) (i : Fin 2) : sProp 𝕄 :=
  iprop(waitPost m c 1 (ordD (Fin.natAdd 13 i)) ∗ idle m c (slotOf i.val))

theorem accLasts_ok (c : Dev nD) :
    iprop(((env m K ∗ ow c (O₂ c)) ∗ oP c (acc m c 13)) ∗ bigSep Finset.univ (lastPre m c))
      ⊢ wpc c (seqF 2 (accLast c)) fun _ => iprop(((env m K ∗ ow c (O₂ c)) ∗ oP c (acc m c 15))
        ∗ bigSep Finset.univ (lastPost m c)) :=
  wp_seqF c 2 (accLast c) (fun i => iprop((env m K ∗ ow c (O₂ c)) ∗ oP c (acc m c (13 + i)))) _ _ fun i => by
    have e1 : ordN (13 + i.val + 1) = ordI (Fin.natAdd 14 i) :=
      congrArg ordI (Fin.ext (by have := i.isLt; show (13 + i.val + 1) % 16 = 14 + i.val; omega))
    have hb : back c (ordI (Fin.natAdd 14 i)) = rot c (ordD (Fin.natAdd 13 i)).rev :=
      slot_at c (Fin.natAdd 13 i) _ (congrArg ordI (Fin.ext (by show 14 + i.val = 13 + i.val + 1; omega)))
    have ea : acc m c (13 + (i.val + 1)) = k0_pay6 (gVal m c (ordI (Fin.natAdd 14 i))) (wVal m c (ordI (Fin.natAdd 14 i)))
        (acc m c (13 + i.val)) := by rw [← e1]; rfl
    unfold accLast lastPre lastPost idle wpc waitPost
    simp only [wp_bind]
    rw [pay1_eq, ea]
    iintro ⟨⟨⟨#He, HO⟩, Ho⟩, Hp, Hf1⟩
    iapply (recvWait_ok m K c (Fin.natAdd 13 i)) $$ [HO Hp]
    · isplitr; · iexact He
      isplitl [HO] <;> iassumption
    unfold waitPost
    rw [pay1_eq]
    iintro ⟨HO, Hg, Hz⟩
    iapply (waitW_ok m K c (ordI (Fin.natAdd 14 i)) (slotOf i.val) (above_mono (by decide) (above_O₂ c))) $$ [HO Hf1]
    · isplitr; · iexact He
      isplitl [HO] <;> iassumption
    iintro ⟨HO, Hv, Hw, Hs⟩
    iapply (loadG_ok m c (ordI (Fin.natAdd 14 i)) _ hb) $$ Hg
    iintro Hg
    iapply (loadV_ok m c (slotOf i.val) (ordI (Fin.natAdd 14 i))) $$ Hv
    iintro Hv
    iapply (loadO_ok c (acc m c (13 + i.val))) $$ Ho
    iintro Ho
    iapply (loadO_ok c (acc m c (13 + i.val))) $$ Ho
    iintro Ho
    iapply (storeO_ok c (acc m c (13 + i.val))) $$ Ho
    iintro Ho
    isplitl [HO Ho]
    · isplitl [HO]
      · isplitr; · iexact He
        iexact HO
      iexact Ho
    isplitl [Hg Hz]
    · isplitl [Hg] <;> iassumption
    isplitl [Hw]; · iexact Hw
    isplitl [Hv] <;> iassumption

/-! ## Blocks read and written at offsets the kernel computes -/

/-- Where a device writes its own slot, and its own row. -/
abbrev gTo (c : Dev nD) : Rect S16x256x256 := Rect.unit (s := S16x256x256) (k0_off3 c) S1x256x256.size (k0_off3_inb c)
abbrev aTo (c : Dev nD) : Rect S16x128 := Rect.unit (s := S16x128) (k0_off8 c) S1x128.size (k0_off8_inb c)

/-- A store at slot `b`'s offset writes slot `b`; -/
theorem gWrite (d : Dev nD) (b : Fin 16) (off : Fin 3 → Nat) (h : off = ![b.val, 0, 0])
    (p : ∀ a, off a + S1x256x256.size a ≤ S16x256x256.size a) (f f' : FVec F S16x256x256 .bf16)
    (w : FVec F S1x256x256 .bf16) (hw : ∀ x, w x = f' (ix3 b (x 1) (x 2))) :
    (gR.access (Rect.unit (s := S16x256x256) off S1x256x256.size p)).setOn Finset.univ ⊆ (gRect b).set
      ∧ (((gR.access (Rect.unit (s := S16x256x256) off S1x256x256.size p)).loc (d : Thread nD τ) ↦[(gRect b).set]{fullShare}
          (gR.access (Rect.unit (s := S16x256x256) off S1x256x256.size p)).write (Elt F) f w Finset.univ : sProp 𝕄)
        = ((gR.access (Rect.unit (s := S16x256x256) off S1x256x256.size p)).loc (d : Thread nD τ)
          ↦[(gRect b).set]{fullShare} f')) := by
  subst h
  refine ⟨(gAccess b).subset, pointsTo_congr fun i hi => ?_⟩
  rw [← gAccess b] at hi
  obtain ⟨x, -, rfl⟩ := Finset.mem_map.mp hi
  exact (View.write_emb_of_mem (Val := Elt F) (v := gR.access (gRect b)) f w (Finset.mem_univ x)).trans
    ((hw x).trans (congrArg f' (gRect_emb b x).symm))

/-- likewise a row of the table of maxima; -/
theorem aWrite (d : Dev nD) (b : Fin 16) (off : Fin 2 → Nat) (h : off = ![b.val, 0])
    (p : ∀ a, off a + S1x128.size a ≤ S16x128.size a) (f f' : FVec F S16x128 .f32)
    (w : FVec F S1x128 .f32) (hw : ∀ x, w x = f' (ix2 b (x 1))) :
    aR.view.setOn (Rect.unit (s := S16x128) off S1x128.size p).toLoadRect.set ⊆ (aRect b).set
      ∧ (aR.access (Rect.unit (s := S16x128) off S1x128.size p)).setOn Finset.univ ⊆ (aRect b).set
      ∧ (((aR.access (Rect.unit (s := S16x128) off S1x128.size p)).loc (d : Thread nD τ) ↦[(aRect b).set]{fullShare}
          (aR.access (Rect.unit (s := S16x128) off S1x128.size p)).write (Elt F) f w Finset.univ : sProp 𝕄)
        = ((aR.access (Rect.unit (s := S16x128) off S1x128.size p)).loc (d : Thread nD τ)
          ↦[(aRect b).set]{fullShare} f')) := by
  subst h
  refine ⟨aSetOn b, (aAccess b).subset, pointsTo_congr fun i hi => ?_⟩
  rw [← aAccess b] at hi
  obtain ⟨x, -, rfl⟩ := Finset.mem_map.mp hi
  exact (View.write_emb_of_mem (Val := Elt F) (v := aR.access (aRect b)) f w (Finset.mem_univ x)).trans
    ((hw x).trans (congrArg f' (aRect_emb b x).symm))

/-- and a load at block `b`'s offset of the rounded data reads block `b`. -/
theorem bRead (b : Fin 16) (off : Fin 2 → Nat) (h : off = ![256 * b.val, 0])
    (p : ∀ a, off a + S256x256.size a ≤ S4096x256.size a) (f : FVec F S4096x256 .bf16) :
    bR.view.readAt (Elt F) (Rect.unit (s := S4096x256) off S256x256.size p).toLoadRect f
        = fun x => f (ix2 ⟨256 * b.val + (x 0).val, row_lt b (x 0)⟩ (x 1)) := by
  subst h
  refine funext fun x => ?_
  refine (View.read_apply (v := bR.view.slice (bRect b)) (Val := Elt F) _ x).trans ?_
  refine (cast_eq _ _).trans ?_
  exact congrArg f (bAt_emb b x (row_lt b (x 0)))

/-! ## Rounding the data -/

def xP (c : Dev nD) : sProp 𝕄 := (c : Thread nD τ).loc cc0_stg0_0 ↦{fullShare} xstg m c
def bW (c : Dev nD) (f : FVec F S4096x256 .bf16) : sProp 𝕄 := (c : Thread nD τ).loc cc0_scratch0 ↦{fullShare} f
def aW (c : Dev nD) (f : FVec F S16x128 .f32) : sProp 𝕄 := (c : Thread nD τ).loc cc0_scratch4 ↦{fullShare} f

abbrev xRect : Rect S4096x256 := Rect.unit (s := S4096x256) ![0, 0] S4096x256.size inb_S4096x256_S4096x256_0_0

/-- The device's own slot: its rounded data's own rows. -/
theorem ownSlot (c : Dev nD) (x : S1x256x256.Idx) :
    k0_pay3 (fun x : S256x256.Idx => castX m c (ix2 ⟨256 * c.val + (x 0).val, row_lt c (x 0)⟩ (x 1))) x
      = gAll m c (ix3 c (x 1) (x 2)) := by
  unfold k0_pay3
  exact shapeCast_addUnit_apply S256x256.size _ _ x

theorem castPart_ok (c : Dev nD) :
    iprop(bigSep Finset.univ (idle m c) ∗ xP m c ∗ (∃ f, bW (F := F) c f) ∗ ∃ f, gP (F := F) c c f)
      ⊢ wpc c (castPart c) fun _ => iprop(flying m c 0 0 ∗ flying m c 1 1 ∗ xP m c ∗ bW c (castX m c) ∗ gP c c (gAll m c)) := by
  have hx : xR.view.readAt (Elt F) xRect.toLoadRect (xstg m c) = xstg m c := Memref.readAt_unit_zero (Elt F) cc0_stg0_0 origin2 _ _
  have hb : ∀ f : FVec F S4096x256 .bf16, (bR.access xRect).write (Elt F) f (castX m c) Finset.univ = castX m c := fun f =>
    Memref.write_access_unit_zero_univ (Elt F) cc0_scratch0 origin2 _ f _
  have hg := fun f => gWrite c c _ (off3_eq c) (k0_off3_inb c) f (gAll m c) _ (ownSlot m c)
  have hr := bRead c _ (off2_eq c) (k0_off2_inb c) (castX m c)
  have hl := fun f => (gRead c _ (off3_eq c) (k0_off3_inb c) (f : FVec F S16x256x256 .bf16)).1
  have h2 : bigSep Finset.univ (idle m c) = iprop(idle m c 0 ∗ idle m c 1) := BI.bigSep_fin_two _
  rw [h2]
  unfold castPart wpc idle xP bW gP
  simp only [wp_bind]
  iintro ⟨⟨⟨Hw0, Hv0, Hs0⟩, Hw1, Hv1, Hs1⟩, Hx, ⟨%fb, Hb⟩, ⟨%fg, Hg⟩⟩
  iapply (fetch_ok m c 0 0) $$ [Hv0 Hw0 Hs0]
  · isplitl [Hw0]; · iexact Hw0
    isplitl [Hv0] <;> iassumption
  iintro Hf0
  iapply (fetch_ok m c 1 1) $$ [Hv1 Hw1 Hs1]
  · isplitl [Hw1]; · iexact Hw1
    isplitl [Hv1] <;> iassumption
  iintro Hf1
  iapply (load_any c xR xRect.toLoadRect (S := Finset.univ) (q := fullShare) (f := xstg m c) (Finset.subset_univ _) _ hx) $$ Hx
  iintro Hx
  iapply (load_any c bR xRect.toLoadRect (S := Finset.univ) (q := fullShare) (f := fb) (Finset.subset_univ _) _ rfl) $$ Hb
  iintro Hb
  iapply (store_any c bR xRect (k0_pay2 (xstg m c)) (S := Finset.univ) (f := fb) (Finset.subset_univ _) (castX m c)
    (congrArg (fun v => ((bR.access xRect).loc (c : Thread nD τ) ↦[Finset.univ]{fullShare} v : sProp 𝕄)) (hb fb))) $$ Hb
  iintro Hb
  iapply (load_any c bR _ (S := Finset.univ) (q := fullShare) (f := castX m c) (Finset.subset_univ _) _ hr) $$ Hb
  iintro Hb
  iapply (load_any c gR (gTo c).toLoadRect (S := (gRect c).set) (q := fullShare) (f := fg) (hl fg) _ rfl) $$ Hg
  iintro Hg
  iapply (store_any c gR (gTo c) (k0_pay3 fun x : S256x256.Idx => castX m c (ix2 ⟨256 * c.val + (x 0).val, row_lt c (x 0)⟩ (x 1))) (S := (gRect c).set) (f := fg)
    (hg fg).1 (gAll m c) (hg fg).2) $$ Hg
  iintro Hg
  isplitl [Hf0]; · iexact Hf0
  isplitl [Hf1]; · iexact Hf1
  isplitl [Hx]; · iexact Hx
  isplitl [Hb] <;> iassumption

/-! ## The maxima and the scaling -/

theorem maxPart_ok (c : Dev nD) :
    iprop(oP c (acc m c 15) ∗ ∃ f, aP (F := F) c c fullShare f)
      ⊢ wpc c (maxPart c) fun _ => iprop(oP c (acc m c 15) ∗ aP c c fullShare (aAll m)) := by
  have ha := fun f => aWrite c c _ (off8_eq c) (k0_off8_inb c) f (aAll m) (maxRow m c) fun x =>
    congrArg (maxRow m c) ((eq_ix2 x).trans (by
      rw [show x 0 = (⟨0, Nat.one_pos⟩ : Fin 1) from @Subsingleton.elim (Fin 1) _ _ _]; rfl))
  unfold maxPart wpc aP
  simp only [wp_bind]
  iintro ⟨Ho, ⟨%f, Ha⟩⟩
  iapply (loadO_ok c (acc m c 15)) $$ Ho
  iintro Ho
  iapply (load_any c aR (aTo c).toLoadRect (S := (aRect c).set) (q := fullShare) (f := f) (ha f).1 _ rfl) $$ Ha
  iintro Ha
  iapply (store_any c aR (aTo c) (maxRow m c) (S := (aRect c).set) (f := f) (ha f).2.1 (aAll m) (ha f).2.2) $$ Ha
  iintro Ha
  isplitl [Ho] <;> iassumption

abbrev tRect : Rect S16x128 := Rect.unit (s := S16x128) ![0, 0] S16x128.size inb_S16x128_S16x128_0_0

theorem scalePart_ok (c : Dev nD) :
    iprop(oP c (acc m c 15) ∗ aW c (aAll m)) ⊢ wpc c scalePart fun _ => iprop(oP c (outAt m c) ∗ aW c (aAll m)) := by
  have hx : aR.view.readAt (Elt F) tRect.toLoadRect (aAll m) = aAll m := Memref.readAt_unit_zero (Elt F) cc0_scratch4 origin2 _ _
  unfold scalePart wpc aW
  simp only [wp_bind]
  iintro ⟨Ho, Ha⟩
  iapply (load_any c aR tRect.toLoadRect (S := Finset.univ) (q := fullShare) (f := aAll m) (Finset.subset_univ _) _ hx) $$ Ha
  iintro Ha
  iapply (loadO_ok c (acc m c 15)) $$ Ho
  iintro Ho
  iapply (loadO_ok c (acc m c 15)) $$ Ho
  iintro Ho
  iapply (storeO_ok c (acc m c 15)) $$ Ho
  iintro Ho
  isplitl [Ho]; · iexact Ho
  iexact Ha

end Cert.KernelIdeal.Gen
end
-- ==== Proof.Body.lean ====
module

public import proofs.«01_k».proof.Proof.Parts

@[expose] public section

set_option maxRecDepth 8192

/-! The kernel's body on a device, from what the launch deals it to what it leaves. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Regrouping -/

/-- Over all devices: over the device itself and those further on. -/
theorem dev_split (c : Dev nD) (Φ : Dev nD → sProp 𝕄) :
    bigSep Finset.univ Φ = iprop(Φ c ∗ bigSep Finset.univ fun r : Fin 15 => Φ (rot c r)) := by
  rw [rot_univ c, bigSep_insert (rot_notMem c), bigSep_map]; rfl

theorem rev_eq (Φ : Fin 15 → sProp 𝕄) : bigSep Finset.univ (fun r : Fin 15 => Φ r.rev) = bigSep Finset.univ Φ :=
  (BI.bigSep_univ_equiv Fin.revPerm Φ).symm
theorem ord_eq (Φ : Fin 15 → sProp 𝕄) : bigSep Finset.univ (fun j : Fin 15 => Φ (ordD j)) = bigSep Finset.univ Φ :=
  (BI.bigSep_univ_equiv ordE Φ).symm
theorem fin15 (Φ : Fin 15 → sProp 𝕄) :
    bigSep Finset.univ Φ = iprop((bigSep Finset.univ fun i : Fin 13 => Φ (Fin.castLE (by decide) i))
      ∗ bigSep Finset.univ fun i : Fin 2 => Φ (Fin.natAdd 13 i)) := by
  rw [BI.bigSep_univ_equiv (finSumFinEquiv (m := 13) (n := 2)) Φ, BI.bigSep_univ_sum]; rfl
theorem two_eq (Φ : Fin 2 → sProp 𝕄) : bigSep Finset.univ Φ = iprop(Φ 0 ∗ Φ 1) := BI.bigSep_fin_two Φ

theorem sep2 {I : Type} (s : Finset I) (Φ₁ Φ₂ : I → sProp 𝕄) :
    iprop(bigSep s Φ₁ ∗ bigSep s Φ₂) = bigSep s fun i => iprop(Φ₁ i ∗ Φ₂ i) := (bigSep_sep' s Φ₁ Φ₂).symm
theorem sep3 {I : Type} (s : Finset I) (Φ₁ Φ₂ Φ₃ : I → sProp 𝕄) :
    iprop(bigSep s Φ₁ ∗ bigSep s Φ₂ ∗ bigSep s Φ₃) = bigSep s fun i => iprop(Φ₁ i ∗ Φ₂ i ∗ Φ₃ i) := by
  rw [sep2, sep2]
theorem sep4 {I : Type} (s : Finset I) (Φ₁ Φ₂ Φ₃ Φ₄ : I → sProp 𝕄) :
    iprop(bigSep s Φ₁ ∗ bigSep s Φ₂ ∗ bigSep s Φ₃ ∗ bigSep s Φ₄)
      = bigSep s fun i => iprop(Φ₁ i ∗ Φ₂ i ∗ Φ₃ i ∗ Φ₄ i) := by
  rw [sep3, sep2]

/-! ## Buffers whole and in blocks -/

def gW (c : Dev nD) (f : FVec F S16x256x256 .bf16) : sProp 𝕄 := (c : Thread nD τ).loc cc0_scratch1 ↦{fullShare} f
def vW (c : Dev nD) (f : FVec F S2x256x8192 .f32) : sProp 𝕄 := (c : Thread nD τ).loc cc0_scratch2 ↦{fullShare} f
def uW (c : Dev nD) (f : FVec F S1x8x128 .bf16) : sProp 𝕄 := (c : Thread nD τ).loc cc0_scratch3 ↦{fullShare} f
def argW (c : Dev nD) : sProp 𝕄 := (c : Thread nD τ).loc main_arg1 ↦{fullShare} wstg m c

theorem blocks {ℓ : Loc nD τ sig} {B : Type} [Fintype B] (I : B → Finset (Idx ℓ))
    (hd : ∀ b b', b ≠ b' → Disjoint (I b) (I b')) (hc : Finset.univ.biUnion I = Finset.univ) (f : Buf (Elt F) ℓ) :
    (ℓ ↦{fullShare} f : sProp 𝕄) = bigSep Finset.univ fun b => ℓ ↦[I b]{fullShare} f :=
  Ring.pointsTo_blocks (Ix := Unit) (Name := ℕ) (U := UU) (Lvl := ℕ) I hd hc f

theorem gW_eq (c : Dev nD) (f : FVec F S16x256x256 .bf16) :
    gW c f = iprop(gP c c f ∗ bigSep Finset.univ fun r : Fin 15 => gP c (rot c r) f) := by
  have h := blocks (F := F) (ℓ := (c : Thread nD τ).loc cc0_scratch1) (fun b : Dev nD => (gRect b).set) gRect_disj gRect_cover f
  rw [← dev_split c fun b => gP c b f]
  unfold gW
  rw [h]
  exact bigSep_congr fun b _ => rfl
theorem bW_eq (c : Dev nD) (f : FVec F S4096x256 .bf16) :
    bW c f = iprop(bP c c f ∗ bigSep Finset.univ fun r : Fin 15 => bP c (rot c r) f) := by
  have h := blocks (F := F) (ℓ := (c : Thread nD τ).loc cc0_scratch0) (fun b : Dev nD => (bRect b).set) bRect_disj bRect_cover f
  rw [← dev_split c fun b => bP c b f]
  unfold bW
  rw [h]
  exact bigSep_congr fun b _ => rfl
theorem aW_eq (c : Dev nD) (f : FVec F S16x128 .f32) :
    aW c f = iprop(aP c c fullShare f ∗ bigSep Finset.univ fun r : Fin 15 => aP c (rot c r) fullShare f) := by
  have h := blocks (F := F) (ℓ := (c : Thread nD τ).loc cc0_scratch4) (fun b : Dev nD => (aRect b).set) aRect_disj aRect_cover f
  rw [← dev_split c fun b => aP c b fullShare f]
  unfold aW
  rw [h]
  exact bigSep_congr fun b _ => rfl

/-- Each holds some contents. -/
theorem any_intro {I X : Type} [DecidableEq I] (s : Finset I) (P : I → X → sProp 𝕄) (f : X) :
    bigSep s (fun i => P i f) ⊢ bigSep s fun i => iprop(∃ f, P i f) :=
  bigSep_mono fun i _ => show P i f ⊢ iprop(∃ f, P i f) by
    iintro H
    iexists f
    iexact H

theorem gW_any (c : Dev nD) :
    iprop(∃ f, gW (F := F) c f) ⊢ iprop((∃ f, gP (F := F) c c f) ∗ bigSep Finset.univ fun r : Fin 15 => iprop(∃ f, gP (F := F) c (rot c r) f)) := by
  iintro ⟨%f, H⟩
  ihave H := (Entails.of_eq (gW_eq c f)) $$ H
  icases H with ⟨H1, H2⟩
  isplitl [H1]; · iexists f; iexact H1
  iapply (any_intro Finset.univ (fun (r : Fin 15) f => gP (F := F) c (rot c r) f) f) $$ H2
theorem aW_any (c : Dev nD) :
    iprop(∃ f, aW (F := F) c f) ⊢ iprop((∃ f, aP (F := F) c c fullShare f)
      ∗ bigSep Finset.univ fun r : Fin 15 => iprop(∃ f, aP (F := F) c (rot c r) fullShare f)) := by
  iintro ⟨%f, H⟩
  ihave H := (Entails.of_eq (aW_eq c f)) $$ H
  icases H with ⟨H1, H2⟩
  isplitl [H1]; · iexists f; iexact H1
  iapply (any_intro Finset.univ (fun (r : Fin 15) f => aP (F := F) c (rot c r) fullShare f) f) $$ H2
theorem vW_any (c : Dev nD) :
    iprop(∃ f, vW (F := F) c f) ⊢ bigSep Finset.univ fun p : Fin 2 => iprop(∃ f, vP (F := F) c p f) := by
  iintro ⟨%f, H⟩
  have e : vW c f = bigSep Finset.univ fun p : Fin 2 => vP c p f := by
    have h := blocks (F := F) (ℓ := (c : Thread nD τ).loc cc0_scratch2) (fun b : Fin 2 => (vRect b).set) vRect_disj vRect_cover f
    unfold vW
    rw [h]
    exact bigSep_congr fun b _ => rfl
  ihave H := (Entails.of_eq e) $$ H
  iapply (any_intro Finset.univ (fun (p : Fin 2) f => vP (F := F) c p f) f) $$ H
theorem vW_join (c : Dev nD) (f₀ : FVec F S2x256x8192 .f32) :
    bigSep Finset.univ (fun p : Fin 2 => iprop(∃ f, vP (F := F) c p f)) ⊢ iprop(∃ f, vW (F := F) c f) := by
  have h := Ring.pointsTo_blocks_join_exists (Ix := Unit) (Name := ℕ) (U := UU) (Lvl := ℕ) (Val := Elt F)
    (ℓ := (c : Thread nD τ).loc cc0_scratch2) (fun b : Fin 2 => (vRect b).set) vRect_disj vRect_cover (q := fullShare) f₀
  exact h

theorem argW_eq (c : Dev nD) : (argW m c : sProp 𝕄) ⊣⊢ iprop(wP m c 0 Finset.univ ∗ wP m c 1 Finset.univ) :=
  pointsTo_share (PosShare.mem_left_op_right fullShare)
theorem lent_eq (c : Dev nD) (f : FVec F S16x128 .f32) :
    aP c c fullShare f = bigSep Finset.univ fun r : Fin 15 => aP c c (lent r) f :=
  Transfers.pointsTo_deal Finset.univ ⟨0, Finset.mem_univ _⟩ fullShare

/-! ## What a device starts with and ends with -/

abbrev tok (c : Dev nD) (i : CI) (d : Fin 15) : sProp 𝕄 := dutyTok ER (cell c i) 0 d
abbrev pos (c : Dev nD) (i : CI) : sProp 𝕄 := atPos ER (cell c i) 0 ∅ 0
abbrev zero (c : Dev nD) (i : CI) : sProp 𝕄 := semVal (cell c i) 0
abbrev over (Φ : Fin 15 → sProp 𝕄) : sProp 𝕄 := bigSep Finset.univ Φ

/-- The duties a device pays. -/
def payToks (c : Dev nD) : sProp 𝕄 :=
  iprop(over (fun r => tok (rot c r) none r) ∗ over (fun r => tok c (some (0, r)) 0) ∗ over (fun r => tok (rot c r) (some (1, r)) 0)
    ∗ over (fun r => tok c (some (2, r)) 0) ∗ over (fun r => tok (rot c r) (some (3, r)) 0))
/-- Its cells' positions, and its cells closed. -/
def poss (c : Dev nD) : sProp 𝕄 :=
  iprop(pos c none ∗ over (fun r => pos c (some (0, r))) ∗ over (fun r => pos c (some (1, r)))
    ∗ over (fun r => pos c (some (2, r))) ∗ over (fun r => pos c (some (3, r))))
def zeros (c : Dev nD) : sProp 𝕄 :=
  iprop(zero c none ∗ over (fun r => zero c (some (0, r))) ∗ over (fun r => zero c (some (1, r)))
    ∗ over (fun r => zero c (some (2, r))) ∗ over (fun r => zero c (some (3, r))))
/-- What it is owed at the start. -/
def creds (c : Dev nD) : sProp 𝕄 :=
  iprop(cred (tallyAt (cell c none) () 15) ∗ over (fun r => cred (tallyAt (cell c (some (1, r))) () N))
    ∗ over (fun r => cred (tallyAt (cell c (some (3, r))) () NA)))
/-- The weight's two semaphores at zero. -/
def wzeros (c : Dev nD) : sProp 𝕄 := bigSep Finset.univ fun p : Fin 2 => semVal ((c : Thread nD τ), .dma (wsemAt p)) 0
/-- Its scratch buffers, at any contents. -/
def scr (c : Dev nD) : sProp 𝕄 :=
  iprop((∃ f, bW (F := F) c f) ∗ (∃ f, gW (F := F) c f) ∗ (∃ f, vW (F := F) c f) ∗ (∃ f, uW (F := F) c f) ∗ ∃ f, aW (F := F) c f)

/-! ## The loops' premises and what they leave, regrouped -/

theorem sig_in (c : Dev nD) :
    iprop(over (fun r => tok (F := F) (rot c r) none r) ∗ over (fun r => iprop(∃ f, gP (F := F) c (rot c r) f))
      ∗ over (fun r => iprop(∃ f, aP (F := F) c (rot c r) fullShare f))) ⊢ bigSep Finset.univ (sigPre (F := F) c) :=
  Entails.of_eq (sep3 Finset.univ _ _ _)
theorem bar_out (c : Dev nD) :
    (bigSep Finset.univ fun r => pay m c none r) ⊢ iprop(over (fun r => iprop(∃ f, gP (F := F) (rot c r) c f))
      ∗ over (fun r => iprop(∃ f, aP (F := F) (rot c r) c fullShare f))) :=
  Entails.of_eq ((rev_eq fun r => iprop((∃ f, gP (F := F) (rot c r) c f) ∗ ∃ f, aP (F := F) (rot c r) c fullShare f)).trans
    (sep2 Finset.univ _ _).symm)
theorem dat_in (c : Dev nD) :
    iprop(over (fun r => bP c (rot c r) (castX m c)) ∗ over (fun r => iprop(∃ f, gP (F := F) (rot c r) c f))
      ∗ over (fun r => tok (F := F) c (some (0, r)) 0) ∗ over (fun r => tok (F := F) (rot c r) (some (1, r)) 0))
      ⊢ bigSep Finset.univ (datPre m c) :=
  Entails.of_eq ((sep4 Finset.univ _ _ _ _).trans (ord_eq fun r => iprop(bP c (rot c r) (castX m c)
    ∗ (∃ f, gP (F := F) (rot c r) c f) ∗ tok (F := F) c (some (0, r)) 0 ∗ tok (F := F) (rot c r) (some (1, r)) 0)).symm)
theorem max_in (c : Dev nD) :
    iprop(aP c c fullShare (aAll m) ∗ over (fun r => iprop(∃ f, aP (F := F) (rot c r) c fullShare f))
      ∗ over (fun r => tok (F := F) c (some (2, r)) 0) ∗ over (fun r => tok (F := F) (rot c r) (some (3, r)) 0))
      ⊢ bigSep Finset.univ (maxPre m c) :=
  Entails.of_eq ((congrArg (fun P => iprop(P ∗ _)) (lent_eq c (aAll m))).trans (sep4 Finset.univ _ _ _ _))

theorem wait_in (c : Dev nD) (k : Fin 4) :
    iprop(over (fun r => cred (tallyAt (cell c (some (k, r))) () (units (some (k, r))))) ∗ over (fun r => pos (F := F) c (some (k, r))))
      ⊢ bigSep Finset.univ (waitPre (F := F) c k) := Entails.of_eq (sep2 Finset.univ _ _)
theorem wait_out (c : Dev nD) (k : Fin 4) :
    bigSep Finset.univ (waitPost m c k) ⊢ iprop(over (fun r => pay m c (some (k, r)) 0) ∗ over (fun r => zero (F := F) c (some (k, r)))) :=
  Entails.of_eq (sep2 Finset.univ _ _).symm

theorem recv_pay (c : Dev nD) : over (fun r => pay m c (some (1, r)) 0) = over fun r => gP c (rot c r) (gAll m c) :=
  rev_eq fun r => gP c (rot c r) (gAll m c)
theorem max_pay (c : Dev nD) : over (fun r => pay m c (some (3, r)) 0) = over fun r => aP c (rot c r) fullShare (aAll m) :=
  rev_eq fun r => aP c (rot c r) fullShare (aAll m)

/-! ## The body -/

/-- A part of the program run first. -/
theorem part {c : Dev nD} {P P' : sProp 𝕄} {p : Prog (TpuEff nD τ sig (Elt F) Λ₀ .tc) PUnit} (h : P ⊢ wpc c p fun _ => P')
    (Q : PUnit → sProp 𝕄) : P ⊢ iprop((P' -∗ Q ⟨⟩) -∗ wpc c p Q) := by
  unfold wpc at h ⊢
  iintro H Hk
  ihave Hw := h $$ H
  iapply (wp_wand frame (wpE (defs₀ (F := F)) 𝒱₀ (c : Thread nD τ) none) Set.univ) $$ Hw
  iintro %u H
  iapply Hk $$ H

def bodyPre (c : Dev nD) : sProp 𝕄 :=
  iprop(env m K ∗ ow c (O₀ c) ∗ (payToks c ∗ poss c ∗ wzeros c ∗ creds c ∗ argW m c ∗ scr c) ∗ xP m c ∗ ∃ f, oP (F := F) c f)
def bodyPost (c : Dev nD) : sProp 𝕄 :=
  iprop(ow c 0 ∗ (zeros c ∗ wzeros c ∗ argW m c ∗ scr c) ∗ xP m c ∗ oP c (outAt m c))

theorem loops_ok (c : Dev nD) (Q : PUnit → sProp 𝕄) :
    bodyPre m K c ⊢ iprop((bodyPost m c -∗ Q ⟨⟩) -∗ wpc c loopProg Q) := by
  unfold loopProg wpc
  simp only [wp_bind, Prog.lift, wp_deviceId, wp_ret]
  unfold bodyPre payToks poss creds scr
  iintro ⟨#He, HO, ⟨⟨Tb, Ts, Tr, Tm, Tn⟩, ⟨Pb, P0, P1, P2, P3⟩, Wz, ⟨Cb, C1, C3⟩, Ha, ⟨Sb, Sg, Sv, Su, Sa⟩⟩, Hx, Ho⟩ Hk
  ihave Hw := (argW_eq m c).1 $$ Ha
  ihave Hv := (vW_any c) $$ Sv
  ihave Hg := (gW_any c) $$ Sg
  ihave Ht := (aW_any c) $$ Sa
  icases Hg with ⟨Hg, Hgs⟩
  icases Ht with ⟨Ht, Hts⟩
  -- the rounding, with the weight's first two copies
  have hidle : iprop((wP m c 0 Finset.univ ∗ wP m c 1 Finset.univ) ∗ bigSep Finset.univ (fun p : Fin 2 => iprop(∃ f, vP (F := F) c p f)) ∗ wzeros c)
      ⊢ bigSep Finset.univ (idle m c) :=
    Entails.of_eq ((congrArg (fun P => iprop(P ∗ _)) (two_eq fun p => wP m c p Finset.univ).symm).trans (sep3 Finset.univ _ _ _))
  imodintro
  iapply (part (castPart_ok m c)) $$ [Hw Hv Wz Hx Sb Hg]
  · isplitl [Hw Hv Wz]
    · iapply hidle
      isplitl [Hw]; · iexact Hw
      isplitl [Hv] <;> iassumption
    isplitl [Hx]; · iexact Hx
    isplitl [Sb] <;> iassumption
  iintro ⟨Hf0, Hf1, Hx, Hb, Hg⟩
  -- the barrier
  iapply (part (signals_ok m K c)) $$ [HO Tb Hgs Hts]
  · isplitl [HO]
    · isplitr; · iexact He
      iexact HO
    iapply (sig_in c)
    isplitl [Tb]; · iexact Tb
    isplitl [Hgs] <;> iassumption
  iintro ⟨⟨-, HO⟩, -⟩
  iapply (waitBar m K c (above_O₁ c)) $$ [HO Cb Pb]
  · isplitr; · iexact He
    isplitl [HO]; · iexact HO
    isplitl [Cb] <;> iassumption
  iintro ⟨HO, Hp, Zb⟩
  ihave Hp := (bar_out m c) $$ Hp
  icases Hp with ⟨Hgs, Hts⟩
  -- the copies out
  ihave Hb := (Entails.of_eq (bW_eq c (castX m c))) $$ Hb
  icases Hb with ⟨Hb, Hbs⟩
  iapply (part (sends_ok m K c)) $$ [HO Hbs Hgs Ts Tr]
  · isplitl [HO]
    · isplitr; · iexact He
      iexact HO
    iapply (dat_in m c)
    isplitl [Hbs]; · iexact Hbs
    isplitl [Hgs]; · iexact Hgs
    isplitl [Ts] <;> iassumption
  iintro ⟨⟨-, HO⟩, C0⟩
  -- the accumulation
  iapply (part (accFirst_ok m K c)) $$ [HO Hf0 Hg Ho]
  · isplitl [HO]
    · isplitr; · iexact He
      iexact HO
    isplitl [Hf0]; · iexact Hf0
    isplitl [Hg] <;> iassumption
  iintro ⟨⟨-, HO⟩, Hf0, Hg, Ho⟩
  have hrecv : iprop(over (fun r => cred (tallyAt (cell c (some (1, r))) () N)) ∗ over (fun r => pos (F := F) c (some (1, r))))
      ⊢ iprop((bigSep Finset.univ fun i : Fin 13 => waitPre (F := F) c 1 (ordD (Fin.castLE (by decide) i)))
        ∗ bigSep Finset.univ fun i : Fin 2 => waitPre (F := F) c 1 (ordD (Fin.natAdd 13 i))) :=
    (wait_in c 1).trans (Entails.of_eq ((ord_eq fun r => waitPre (F := F) c 1 r).symm.trans (fin15 fun j => waitPre (F := F) c 1 (ordD j))))
  ihave Hr := hrecv $$ [C1 P1]
  · isplitl [C1] <;> iassumption
  icases Hr with ⟨Hr, Hr2⟩
  iapply (part (accSteps_ok m K c)) $$ [HO Hf0 Hf1 Ho Hr]
  · isplitr [Hr]
    · unfold accState
      isplitl [HO]
      · isplitr; · iexact He
        iexact HO
      isplitl [Hf1]; · iexact Hf1
      isplitl [Hf0]; · iexact Hf0
      iexact Ho
    iexact Hr
  unfold accState
  iintro ⟨⟨⟨-, HO⟩, Hf0, Hf1, Ho⟩, Hq⟩
  iapply (part (accLasts_ok m K c)) $$ [HO Hf0 Hf1 Ho Hr2]
  · isplitl [HO Ho]
    · isplitl [HO]
      · isplitr; · iexact He
        iexact HO
      iexact Ho
    have hl : iprop((bigSep Finset.univ fun i : Fin 2 => waitPre (F := F) c 1 (ordD (Fin.natAdd 13 i)))
        ∗ flying m c (slotOf (13 + 1)) (ordN (13 + 1)) ∗ flying m c (slotOf (13 + 2)) (ordN (13 + 2)))
        ⊢ bigSep Finset.univ (lastPre m c) :=
      Entails.of_eq ((congrArg (fun P => iprop(_ ∗ P)) (two_eq fun i : Fin 2 => flying m c (slotOf i.val) (ordI (Fin.natAdd 14 i))).symm).trans
        (sep2 Finset.univ _ _))
    iapply hl
    isplitl [Hr2]; · iexact Hr2
    isplitl [Hf0] <;> iassumption
  iintro ⟨⟨⟨-, HO⟩, Ho⟩, Hq2⟩
  have hlast : bigSep Finset.univ (lastPost m c)
      ⊢ iprop((bigSep Finset.univ fun i : Fin 2 => waitPost m c 1 (ordD (Fin.natAdd 13 i)))
        ∗ bigSep Finset.univ (fun p : Fin 2 => wP m c p Finset.univ) ∗ bigSep Finset.univ (fun p : Fin 2 => iprop(∃ f, vP (F := F) c p f))
        ∗ wzeros c) := by
    have e : lastPost m c = fun p : Fin 2 => iprop(waitPost m c 1 (ordD (Fin.natAdd 13 p)) ∗ wP m c p Finset.univ
        ∗ (∃ f, vP (F := F) c p f) ∗ semVal ((c : Thread nD τ), .dma (wsemAt p)) 0) := by
      funext p
      unfold lastPost idle
      rw [show slotOf p.val = p from Fin.ext (Nat.mod_eq_of_lt p.isLt)]
    rw [e]
    exact Entails.of_eq (sep4 Finset.univ _ _ _ _).symm
  ihave Hq2 := hlast $$ Hq2
  icases Hq2 with ⟨Hq2, Hw, Hv, Wz⟩
  have hgot : iprop((bigSep Finset.univ fun i : Fin 13 => waitPost m c 1 (ordD (Fin.castLE (by decide) i)))
        ∗ bigSep Finset.univ fun i : Fin 2 => waitPost m c 1 (ordD (Fin.natAdd 13 i)))
      ⊢ iprop(over (fun r => gP c (rot c r) (gAll m c)) ∗ over (fun r => zero (F := F) c (some (1, r)))) := by
    rw [← recv_pay]
    exact (Entails.of_eq ((fin15 fun j => waitPost m c 1 (ordD j)).symm.trans (ord_eq fun r => waitPost m c 1 r))).trans (wait_out m c 1)
  ihave Hq := hgot $$ [Hq Hq2]
  · isplitl [Hq] <;> iassumption
  icases Hq with ⟨Hgs, Z1⟩
  -- the copies out have left
  have hsent : iprop((bigSep Finset.univ fun j => cred (tallyAt (cell c (some (0, ordD j))) () N)) ∗ over (fun r => pos (F := F) c (some (0, r))))
      ⊢ bigSep Finset.univ fun j => waitPre (F := F) c 0 (ordD j) :=
    (Entails.of_eq (congrArg (fun P => iprop(P ∗ over (fun r => pos (F := F) c (some (0, r)))))
      (ord_eq fun r => cred (tallyAt (cell c (some (0, r))) () N)))).trans
      ((wait_in c 0).trans (Entails.of_eq (ord_eq fun r => waitPre (F := F) c 0 r).symm))
  iapply (part (waits_ok m K c 0 ordD (sentWait c) (O₂ c) (sentWait_ok m K c))) $$ [HO C0 P0]
  · isplitl [HO]
    · isplitr; · iexact He
      iexact HO
    iapply hsent
    isplitl [C0] <;> iassumption
  iintro ⟨⟨-, HO⟩, Hq⟩
  have hback : (bigSep Finset.univ fun j => waitPost m c 0 (ordD j))
      ⊢ iprop(over (fun r => bP c (rot c r) (castX m c)) ∗ over (fun r => zero (F := F) c (some (0, r)))) :=
    (Entails.of_eq (ord_eq fun r => waitPost m c 0 r)).trans (wait_out m c 0)
  ihave Hq := hback $$ Hq
  icases Hq with ⟨Hbs, Z0⟩
  -- the maxima
  iapply (part (maxPart_ok m c)) $$ [Ho Ht]
  · isplitl [Ho] <;> iassumption
  iintro ⟨Ho, Ht⟩
  iapply (part (maxSends_ok m K c)) $$ [HO Ht Hts Tm Tn]
  · isplitl [HO]
    · isplitr; · iexact He
      iexact HO
    iapply (max_in m c)
    isplitl [Ht]; · iexact Ht
    isplitl [Hts]; · iexact Hts
    isplitl [Tm] <;> iassumption
  iintro ⟨⟨-, HO⟩, C2⟩
  iapply (part (waits_ok m K c 3 (fun r => r) (maxWait c) 0 (maxWait_ok m K c))) $$ [HO C3 P3]
  · isplitl [HO]
    · isplitr; · iexact He
      iexact HO
    iapply (wait_in c 3)
    isplitl [C3]; · iexact C3
    iexact P3
  iintro ⟨⟨-, HO⟩, Hq⟩
  ihave Hq := (wait_out m c 3) $$ Hq
  icases Hq with ⟨Hts, Z3⟩
  ihave Hts := (Entails.of_eq (max_pay m c)) $$ Hts
  iapply (part (waits_ok m K c 2 (fun r => r) (maxSentWait c) 0 (maxSentWait_ok m K c))) $$ [HO C2 P2]
  · isplitl [HO]
    · isplitr; · iexact He
      iexact HO
    iapply (wait_in c 2)
    isplitl [C2]; · iexact C2
    iexact P2
  iintro ⟨⟨-, HO⟩, Hq⟩
  ihave Hq := (wait_out m c 2) $$ Hq
  icases Hq with ⟨Ht, Z2⟩
  have hlent : over (fun r => pay m c (some (2, r)) 0) ⊢ aP c c fullShare (aAll m) := Entails.of_eq (lent_eq c (aAll m)).symm
  ihave Ht := hlent $$ Ht
  -- the scaling
  iapply (part (scalePart_ok m c)) $$ [Ho Ht Hts]
  · isplitl [Ho]; · iexact Ho
    iapply (Entails.of_eq (aW_eq c (aAll m)).symm)
    isplitl [Ht] <;> iassumption
  iintro ⟨Ho, Ht⟩
  iapply Hk
  unfold bodyPost zeros scr
  isplitl [HO]; · iexact HO
  isplitr [Hx Ho]
  · isplitl [Zb Z0 Z1 Z2 Z3]
    · isplitl [Zb]; · iexact Zb
      isplitl [Z0]; · iexact Z0
      isplitl [Z1]; · iexact Z1
      isplitl [Z2] <;> iassumption
    isplitl [Wz]; · iexact Wz
    isplitl [Hw]
    · iapply (argW_eq m c).2
      iapply (Entails.of_eq (two_eq fun p => wP m c p Finset.univ)) $$ Hw
    isplitl [Hb Hbs]
    · iexists (castX m c)
      iapply (Entails.of_eq (bW_eq c (castX m c)).symm)
      isplitl [Hb] <;> iassumption
    isplitl [Hg Hgs]
    · iexists (gAll m c)
      iapply (Entails.of_eq (gW_eq c (gAll m c)).symm)
      isplitl [Hg] <;> iassumption
    isplitl [Hv]; · iapply (vW_join (F := F) c (m ((c : Thread nD τ).loc cc0_scratch2))) $$ Hv
    isplitl [Su]; · iexact Su
    iexists (aAll m); iexact Ht
  isplitl [Hx] <;> iassumption

end Cert.KernelIdeal.Gen
end
-- ==== Proof.Deal.lean ====
module

public import proofs.«01_k».proof.Proof.Body

@[expose] public section

set_option maxRecDepth 8192

/-! The kernel's body on a device, from what the launch deals it to what it leaves. -/
/-! What the launch deals to the devices: cells, duty tokens and credit. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The cells of a device, listed -/

theorem four_eq (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem unit_eq (Φ : Unit → sProp 𝕄) : bigSep Finset.univ Φ = Φ () := by
  rw [show (Finset.univ : Finset Unit) = {()} from rfl, bigSep_singleton]

theorem sep_swap (P Q : sProp 𝕄) : iprop(P ∗ Q) = iprop(Q ∗ P) :=
  BI.Entails.antisymm (show iprop(P ∗ Q) ⊢ iprop(Q ∗ P) from sep_symm) (show iprop(Q ∗ P) ⊢ iprop(P ∗ Q) from sep_symm)

theorem quad_eq (Φ : Fin 4 × Fin 15 → sProp 𝕄) : bigSep Finset.univ Φ
    = iprop(over (fun r => Φ (0, r)) ∗ over (fun r => Φ (1, r)) ∗ over (fun r => Φ (2, r)) ∗ over (fun r => Φ (3, r))) := by
  rw [BI.bigSep_univ_prod, four_eq]
theorem ci_eq (Φ : CI → sProp 𝕄) : bigSep Finset.univ Φ
    = iprop(Φ none ∗ over (fun r => Φ (some (0, r))) ∗ over (fun r => Φ (some (1, r)))
      ∗ over (fun r => Φ (some (2, r))) ∗ over (fun r => Φ (some (3, r)))) := by
  rw [BI.bigSep_univ_equiv (Equiv.optionEquivSumPUnit.{0} (Fin 4 × Fin 15)).symm Φ, BI.bigSep_univ_sum, quad_eq]
  have h : bigSep Finset.univ (fun b : PUnit.{1} => Φ ((Equiv.optionEquivSumPUnit.{0} (Fin 4 × Fin 15)).symm (Sum.inr b))) = Φ none :=
    unit_eq fun b => Φ ((Equiv.optionEquivSumPUnit.{0} (Fin 4 × Fin 15)).symm (Sum.inr b))
  rw [h]
  exact sep_swap _ _

theorem poss_eq (c : Dev nD) : (poss c : sProp 𝕄) = bigSep Finset.univ (pos c) := (ci_eq (pos c)).symm
theorem zeros_eq (c : Dev nD) : (zeros c : sProp 𝕄) = bigSep Finset.univ (zero c) := (ci_eq (zero c)).symm

/-! ## Cells and tokens -/

theorem cell_iff {a b : Dev nD} {i j : CI} : cell a i = cell b j ↔ a = b ∧ i = j :=
  ⟨fun h => ⟨congrArg (fun g : GSem nD τ sig => g.1.1) h, csem_inj (congrArg Prod.snd h)⟩, fun h => by rw [h.1, h.2]⟩

def cellsAll : Finset (GSem nD τ sig) := Finset.univ.map
  ⟨fun x : Dev nD × CI => cell x.1 x.2, fun x y h => Prod.ext (cell_iff.mp h).1 (cell_iff.mp h).2⟩

/-- A duty of a device's own cell: one of its barrier's fifteen, or another cell's one. -/
abbrev Duty : Type := Fin 15 ⊕ (Fin 4 × Fin 15)
def dutyAt : Duty → CI × Fin 15
  | .inl r => (none, r)
  | .inr q => (some q, 0)
theorem dutyAt_inj : Function.Injective dutyAt := by
  rintro (r | q) (r' | q') h
  · exact congrArg Sum.inl (congrArg Prod.snd h)
  · exact absurd (congrArg Prod.fst h) (by rintro ⟨⟩)
  · exact absurd (congrArg Prod.fst h) (by rintro ⟨⟩)
  · exact congrArg Sum.inr (Option.some.inj (congrArg Prod.fst h))

def toksAll : Finset (GSem nD τ sig × ℕ × Fin 15) := Finset.univ.map
  ⟨fun x : Dev nD × Duty => (cell x.1 (dutyAt x.2).1, 0, (dutyAt x.2).2), fun x y h => by
    have h1 := cell_iff.mp (congrArg Prod.fst h)
    exact Prod.ext h1.1 (dutyAt_inj (Prod.ext h1.2 (congrArg (fun z : GSem nD τ sig × ℕ × Fin 15 => z.2.2) h)))⟩

/-- The tokens of device `c`'s own cells. -/
def toks (c : Dev nD) : sProp 𝕄 :=
  iprop(over (fun r => tok c none r) ∗ over (fun r => tok c (some (0, r)) 0) ∗ over (fun r => tok c (some (1, r)) 0)
    ∗ over (fun r => tok c (some (2, r)) 0) ∗ over (fun r => tok c (some (3, r)) 0))

/-- What the protocol's initial element deals device `c`, and what becomes of it. -/
def G (c : Dev nD) : sProp 𝕄 :=
  iprop((bigSep Finset.univ fun i : CI => roundState ER (Rd m) (cell c i) 0)
    ∗ (bigSep Finset.univ (pos c) ∗ bigSep Finset.univ fun i : CI => reached ER (cell c i) 0) ∗ toks c)
def G' (c : Dev nD) : sProp 𝕄 := iprop((∃ K, recs m K) ∗ payToks c ∗ poss c ∗ wzeros c)

theorem fund : BI.own (ER (initOf cellsAll toksAll)) ⊢ (|==> bigSep Finset.univ (G m) : sProp 𝕄) := by
  have hX (Φ : GSem nD τ sig → sProp 𝕄) : bigSep cellsAll Φ
      = bigSep Finset.univ fun c : Dev nD => bigSep Finset.univ fun i : CI => Φ (cell c i) := by
    unfold cellsAll; rw [bigSep_map, BI.bigSep_univ_prod]; rfl
  have hT : bigSep toksAll (fun x => (dutyTok ER x.1 x.2.1 x.2.2 : sProp 𝕄)) = bigSep Finset.univ fun c : Dev nD => toks c := by
    unfold toksAll; rw [bigSep_map, BI.bigSep_univ_prod]
    refine bigSep_congr fun c _ => ?_
    rw [BI.bigSep_univ_sum, quad_eq]; rfl
  iintro HX
  imod (Rounds.fund ER (Rd m) cellsAll toksAll) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [← sep3, ← sep2]
  isplitl [Hst']; · iexact Hst'
  isplitl [Hat' Hr']
  · isplitl [Hat'] <;> iassumption
  iexact Htok'

/-! ## The semaphores -/

/-- The kernel's own semaphores: the four arrays of fifteen, then the weight's two. -/
def osem (i : Fin 62) : SemLoc sig := .dma ⟨2 + i.val, by
  have : sig.nDmaSem = 64 := rfl
  omega⟩

theorem osem_cell (k : Fin 4) (r : Fin 15) :
    osem (finSumFinEquiv (m := 60) (n := 2) (Sum.inl (finProdFinEquiv (m := 4) (n := 15) (k, r)))) = csem (some (k, r)) := by
  revert k r; decide
theorem osem_w (p : Fin 2) : osem (finSumFinEquiv (m := 60) (n := 2) (Sum.inr p)) = .dma (wsemAt p) := by
  revert p; decide

theorem ownSems0_eq (c : Dev nD) : (Pipeline.ownSems0 (Ix := Unit) (Name := ℕ) (U := UU) (Lvl := ℕ) (Val := Elt F) (τ := τ) osem c : sProp 𝕄)
    = iprop((bigSep Finset.univ fun q : Fin 4 × Fin 15 => zero c (some q)) ∗ wzeros c) := by
  unfold Pipeline.ownSems0 wzeros
  rw [BI.bigSep_univ_equiv (finSumFinEquiv (m := 60) (n := 2)) (fun k => semVal ((c : Thread nD τ), osem k) 0), BI.bigSep_univ_sum,
    BI.bigSep_univ_equiv (finProdFinEquiv (m := 4) (n := 15))
      (fun a => semVal ((c : Thread nD τ), osem (finSumFinEquiv (m := 60) (n := 2) (Sum.inl a))) 0)]
  refine congrArg₂ BI.sep (bigSep_congr fun q _ => ?_) (bigSep_congr fun p _ => ?_)
  · rw [osem_cell]
  · rw [osem_w]
theorem unscopedSems0_eq (c : Dev nD) : (unscopedSems0 c : sProp 𝕄) = zero c none := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊣⊢ (iprop(zeros c ∗ wzeros c) : sProp 𝕄) := by
  rw [ownSems0_eq, unscopedSems0_eq, quad_eq]
  unfold zeros
  constructor
  · iintro ⟨⟨⟨H0, H1, H2, H3⟩, Hw⟩, Hb⟩
    isplitr [Hw]
    · isplitl [Hb]; · iexact Hb
      isplitl [H0]; · iexact H0
      isplitl [H1]; · iexact H1
      isplitl [H2] <;> iassumption
    iexact Hw
  · iintro ⟨⟨Hb, H0, H1, H2, H3⟩, Hw⟩
    isplitr [Hb]
    · isplitr [Hw]
      · isplitl [H0]; · iexact H0
        isplitl [H1]; · iexact H1
        isplitl [H2] <;> iassumption
      iexact Hw
    iexact Hb

/-! ## The cells opened on every device -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop((∃ κ : ℕ, cellInv ER (Rd m) κ (cell c i)) ∗ reached ER (cell c i) 0))
          ∗ toks c ∗ poss c ∗ wzeros c) := by
  unfold G
  iintro ⟨Hos, Hus, Hst, ⟨Hat, Hr⟩, Htok⟩
  ihave Hv := (sems_eq (F := F) c).1 $$ [Hos Hus]
  · isplitl [Hos] <;> iassumption
  icases Hv with ⟨Hz, Hw⟩
  ihave Hz := (Entails.of_eq (zeros_eq (F := F) c)) $$ Hz
  have ha : iprop(bigSep Finset.univ (zero c) ∗ bigSep Finset.univ fun i : CI => roundState ER (Rd m) (cell c i) 0)
      ⊢ (|={Set.univ}=> bigSep Finset.univ fun i : CI => iprop(∃ κ : ℕ, cellInv ER (Rd m) κ (cell c i)) : sProp 𝕄) := by
    rw [sep2]
    exact (bigSep_mono fun i _ => (Rounds.body_intro ER (Rd m) (cell c i)).trans inv_alloc).trans (bigSep_fupd _ _)
  imod ha $$ [Hz Hst] with Hinv
  · isplitl [Hz] <;> iassumption
  imodintro
  rw [← sep2, poss_eq]
  isplitl [Hinv Hr]
  · isplitl [Hinv] <;> iassumption
  isplitl [Htok]; · iexact Htok
  isplitl [Hat] <;> iassumption

/-- Dealt over the devices, what each device keeps about every offset is what each keeps about the
devices at those offsets. -/
theorem around (Φ : Dev nD → Fin 15 → sProp 𝕄) :
    (bigSep Finset.univ fun c => over (Φ c)) = bigSep Finset.univ fun c => over fun r => Φ (rot c r) r := by
  unfold over
  rw [BI.bigSep_univ_comm, BI.bigSep_univ_comm (fun c r => Φ (rot c r) r)]
  exact bigSep_congr fun r _ => BI.bigSep_univ_equiv (rotE r) fun c => Φ c r

theorem toks_around : (bigSep Finset.univ fun c : Dev nD => (toks c : sProp 𝕄)) = bigSep Finset.univ fun c : Dev nD => payToks c := by
  unfold toks payToks
  rw [← sep2, ← sep4, ← sep2, ← sep4, around (fun c r => tok c none r), around (fun c r => tok c (some (1, r)) 0),
    around (fun c r => tok c (some (3, r)) 0)]

theorem all_recs :
    (bigSep Finset.univ fun c : Dev nD => bigSep Finset.univ fun i : CI =>
        iprop((∃ κ : ℕ, cellInv ER (Rd m) κ (cell c i)) ∗ reached ER (cell c i) 0) : sProp 𝕄)
      ⊢ iprop(∃ K, recs m K) := by
  rw [← BI.bigSep_univ_prod (fun x : Dev nD × CI => iprop((∃ κ : ℕ, cellInv ER (Rd m) κ (cell x.1 x.2)) ∗ reached ER (cell x.1 x.2) 0)),
    ← sep2]
  iintro ⟨HI, HR⟩
  ihave HK := (BI.bigSep_exists_pi Finset.univ (fun (x : Dev nD × CI) (κ : ℕ) => (cellInv ER (Rd m) κ (cell x.1 x.2) : sProp 𝕄))) $$ HI
  icases HK with ⟨%K, HI⟩
  iexists K
  unfold recs
  rw [← sep2]
  isplitl [HI] <;> iassumption

theorem share_all {R : sProp 𝕄} [BI.Persistent R] {Φ : Dev nD → sProp 𝕄} :
    iprop(R ∗ bigSep Finset.univ Φ) ⊢ bigSep Finset.univ fun c => iprop(R ∗ Φ c) :=
  (sep_mono_left (BI.bigSep_of_persistent Finset.univ R)).trans (Entails.of_eq (sep2 Finset.univ (fun _ => R) Φ))

theorem regroup :
    (bigSep Finset.univ fun c : Dev nD => iprop((bigSep Finset.univ fun i : CI => iprop((∃ κ : ℕ, cellInv ER (Rd m) κ (cell c i)) ∗ reached ER (cell c i) 0))
          ∗ toks c ∗ poss c ∗ wzeros c) : sProp 𝕄)
      ⊢ bigSep Finset.univ (G' m) := by
  rw [← sep2, ← sep3, toks_around, sep3]
  iintro ⟨HI, H⟩
  ihave HK := (all_recs m) $$ HI
  icases HK with ⟨%K, #HI⟩
  have h : iprop(recs m K ∗ bigSep Finset.univ fun c : Dev nD => iprop(payToks c ∗ poss c ∗ wzeros c)) ⊢ bigSep Finset.univ (G' m) :=
    share_all.trans (bigSep_mono fun c _ => by
      unfold G'
      exact sep_mono_left (BI.BIClass.exists_intro (Φ := fun K => recs m K) K))
  iapply h
  isplitr; · iexact HI
  iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe a cell, when each owes one cell at each offset. -/
theorem owed_sum (g : Fin 15 → Fin 15) (ci : Fin 15 → CI) (n : ℕ) (c : Dev nD) (i : CI) :
    ∑ d : Dev nD, (from_ (fun j => tallyAt (cell (rot d (g j)) (ci j)) () n) 0 : CellTallies nD τ sig Unit) (cell c i) ()
      = ∑ j : Fin 15, if ci j = i then n else 0 := by
  have h1 (d : Dev nD) : (from_ (fun j => tallyAt (cell (rot d (g j)) (ci j)) () n) 0 : CellTallies nD τ sig Unit) (cell c i) ()
      = ∑ j : Fin 15, if c = rot d (g j) ∧ ci j = i then n else 0 := by
    rw [from_start, Finset.sum_apply, Finsupp.finset_sum_apply]
    refine Finset.sum_congr rfl fun j _ => ?_
    rw [tallyAt_apply]
    refine if_congr ?_ rfl rfl
    rw [cell_iff]
    exact ⟨fun h => ⟨h.1.1, h.1.2.symm⟩, fun h => ⟨⟨h.1, h.2.symm⟩, rfl⟩⟩
  rw [Finset.sum_congr rfl fun d _ => h1 d, Finset.sum_comm]
  refine Finset.sum_congr rfl fun j _ => ?_
  have h2 := Equiv.sum_comp (rotE (g j)) fun d : Dev nD => if c = d ∧ ci j = i then n else 0
  refine (h2.trans ?_)
  by_cases h : ci j = i
  · simp only [h, and_true, if_true]
    rw [Finset.sum_ite_eq Finset.univ c fun _ => n, if_pos (Finset.mem_univ _)]
  · simp only [h, and_false, if_false, Finset.sum_const_zero]

theorem launch_eq (c : Dev nD) (i : CI) : launchCredit (Pipeline.owing O₀) 0 (cell c i) ()
    = (∑ j : Fin 15, if (none : CI) = i then 1 else 0) + ((∑ j : Fin 15, if (some (1, ordD j) : CI) = i then N else 0)
      + ∑ j : Fin 15, if (some (3, j) : CI) = i then NA else 0) := by
  rw [Pipeline.launchCredit_owing]
  rw [← owed_sum id (fun _ => none) 1 c i, ← owed_sum ordD (fun j => some (1, ordD j)) N c i, ← owed_sum id (fun j => some (3, j)) NA c i,
    ← Finset.sum_add_distrib, ← Finset.sum_add_distrib]
  exact Finset.sum_congr rfl fun d _ => rfl

theorem launch_bar (c : Dev nD) : launchCredit (Pipeline.owing O₀) 0 (cell c none) () = 15 := by
  rw [launch_eq]; rfl
theorem launch_dat (c : Dev nD) (r : Fin 15) : launchCredit (Pipeline.owing O₀) 0 (cell c (some (1, r))) () = N := by
  rw [launch_eq]
  have h (j : Fin 15) : ((some (1, ordD j) : CI) = some (1, r)) ↔ ordE j = r := by rw [ordE_apply]; simp
  have h1 (j : Fin 15) : (if (some (1, ordD j) : CI) = some (1, r) then N else 0) = (fun k : Fin 15 => if k = r then N else 0) (ordE j) :=
    if_congr (h j) rfl rfl
  rw [Finset.sum_congr rfl fun j _ => h1 j, Equiv.sum_comp ordE (fun k : Fin 15 => if k = r then N else 0),
    Finset.sum_ite_eq' Finset.univ r fun _ => N, if_pos (Finset.mem_univ _)]
  simp
theorem launch_max (c : Dev nD) (r : Fin 15) : launchCredit (Pipeline.owing O₀) 0 (cell c (some (3, r))) () = NA := by
  rw [launch_eq]
  have h (j : Fin 15) : (if (some (3, j) : CI) = some (3, r) then NA else 0) = if j = r then NA else 0 :=
    if_congr (by simp) rfl rfl
  rw [Finset.sum_congr rfl fun j _ => h j, Finset.sum_ite_eq' Finset.univ r fun _ => NA, if_pos (Finset.mem_univ _)]
  simp

theorem launch_tally {c : Dev nD} {i : CI} {n : ℕ} (h : launchCredit (Pipeline.owing O₀) 0 (cell c i) () = n) :
    tallyOn (cell c i) (launchCredit (Pipeline.owing O₀) 0 (cell c i)) = (tallyAt (cell c i) () n : CellTallies nD τ sig Unit) := by
  unfold tallyAt; refine congrArg _ (Finsupp.ext fun u => ?_); cases u
  rw [Finsupp.single_eq_same]; exact h

theorem creds_intro (c : Dev nD) : (Pipeline.launchCred O₀ c : sProp 𝕄) ⊢ creds c := by
  have h : (Pipeline.launchCred O₀ c : sProp 𝕄) ⊢ bigSep Finset.univ fun i : CI =>
      cred (tallyOn (cell c i) (launchCredit (Pipeline.owing O₀) 0 (cell c i))) := by
    unfold Pipeline.launchCred
    refine BI.Entails.trans (BI.bigSep_subset (Finset.subset_univ (Finset.univ.map ⟨csem, csem_inj⟩))) ?_
    rw [bigSep_map]
    exact BI.Entails.refl _
  refine h.trans ?_
  rw [ci_eq, launch_tally (launch_bar c)]
  unfold creds over
  iintro ⟨Hb, -, H1, -, H3⟩
  isplitl [Hb]; · iexact Hb
  isplitl [H1]
  · iapply (Entails.of_eq (bigSep_congr fun r _ => congrArg _ (launch_tally (launch_dat c r)))) $$ H1
  · iapply (Entails.of_eq (bigSep_congr fun r _ => congrArg _ (launch_tally (launch_max c r)))) $$ H3

end Cert.KernelIdeal.Gen
end
-- ==== Proof.Run.lean ====
module

public import proofs.«01_k».proof.Proof.Deal
public import proofs.«01_k».proof.Proof.Gen.KernelIdeal.Points
public import Idealize.ShloMosaic.Lib.Pipeline.Quiescent
public import Idealize.ShloMosaic.Lib.Pipeline.ValueKit.Geometry

@[expose] public section

set_option maxRecDepth 65536

/-! The kernel's body on a device, from what the launch deals it to what it leaves. -/
/-! The run of the whole program on the mesh: it ends, with every device's result array at
`outAt`, its arguments as they were, and every counter at zero. -/

noncomputable section

namespace Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one region -/

/-- What a device has from the launch, before and after its body. -/
def start (c : Dev nD) : sProp 𝕄 := iprop(G' m c ∗ creds c ∗ levAts L lv ∗ argW m c)
def Φ₀ (c : Dev nD) : sProp 𝕄 := iprop(start m c ∗ scr c)
def Φ₁ (c : Dev nD) : sProp 𝕄 := iprop(zeros c ∗ wzeros c ∗ argW m c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owesAt_eq (c : Dev nD) (t : Fin (cfg0.N + 1)) :
    ((dats m ρ 0 c).owesAt () t : sProp 𝕄) ⊣⊢ ow c ((dats m ρ 0 c).owed t) := by
  unfold Dat.owesAt Pipeline.owesWithin ow
  constructor
  · iintro ⟨%W, %hW, HO⟩
    iexists W; iexact HO
  · iintro ⟨%W, HO⟩
    iexists W
    isplitr; · ipureintro; exact fun _ _ => Or.inl trivial
    iexact HO

/-- The body's obligation to the pipeline. -/
theorem body_obligation (c : Dev nD) : BodyObligation (dats m ρ 0 c) (defs₀ (F := F)) 𝒱₀ () Set.univ := fun t => by
  rw [fin_N0 t]
  rw [bigSep_W0, bigSep_W0]
  simp only [whole_eq]
  have hin : iprop(Φ₀ m c ∗ (dats m ρ 0 c).owesAt () t0_0.castSucc
        ∗ (∃ d, ∃ f : Buf (Elt F) ((c : Thread nD τ).loc cc0_stg0_0), ⌜f = (dats m ρ 0 c).before (0 : Fin 2) t0_0 d⌝
            ∗ ((c : Thread nD τ).loc cc0_stg0_0 ↦{fullShare} f))
        ∗ (∃ d, ∃ f : Buf (Elt F) ((c : Thread nD τ).loc cc0_stg1_0), ⌜f = (dats m ρ 0 c).before (1 : Fin 2) t0_0 d⌝
            ∗ ((c : Thread nD τ).loc cc0_stg1_0 ↦{fullShare} f)))
      ⊢ iprop(∃ K, bodyPre m K c) := by
    unfold Φ₀ start G' bodyPre env xP oP
    iintro ⟨⟨⟨⟨⟨%K, HK⟩, Ht, Hp, Hw⟩, Hc, Hl, Ha⟩, Hs⟩, HO, ⟨%d0, %fx, %hx, Hx⟩, ⟨%d1, %fo, %ho, Ho⟩⟩
    ihave HO := (owesAt_eq m ρ c _).1 $$ HO
    have hb : (dats m ρ 0 c).before (0 : Fin 2) t0_0 d0 = xstg m c := by
      unfold Dat.before
      rw [if_pos (fetch0_0 t0_0)]; rfl
    rw [hx, hb]
    iexists K
    isplitl [HK Hl]
    · isplitl [HK] <;> iassumption
    isplitl [HO]; · iexact HO
    isplitl [Ht Hp Hw Hc Ha Hs]
    · isplitl [Ht]; · iexact Ht
      isplitl [Hp]; · iexact Hp
      isplitl [Hw]; · iexact Hw
      isplitl [Hc]; · iexact Hc
      isplitl [Ha] <;> iassumption
    isplitl [Hx]; · iexact Hx
    iexists fo; iexact Ho
  have hout : bodyPost m c ⊢ iprop(Φ₁ m c ∗ (dats m ρ 0 c).owesAt () t0_0.succ
        ∗ (∃ f : Buf (Elt F) ((c : Thread nD τ).loc cc0_stg0_0), ⌜f = xstg m c⌝ ∗ ((c : Thread nD τ).loc cc0_stg0_0 ↦{fullShare} f))
        ∗ (∃ f : Buf (Elt F) ((c : Thread nD τ).loc cc0_stg1_0), ⌜f = outAt m c⌝ ∗ ((c : Thread nD τ).loc cc0_stg1_0 ↦{fullShare} f))) := by
    unfold bodyPost Φ₁ xP oP
    iintro ⟨HO, H, Hx, Ho⟩
    isplitl [H]; · iexact H
    isplitl [HO]
    · have ho : ow c 0 ⊢ ((dats m ρ 0 c).owesAt () t0_0.succ : sProp 𝕄) := (owesAt_eq m ρ c t0_0.succ).2
      iapply ho $$ HO
    isplitl [Hx]
    · iexists _; isplitr; · (ipureintro; rfl)
      iexact Hx
    iexists _; isplitr; · (ipureintro; rfl)
    iexact Ho
  refine hin.trans ?_
  have hl : iprop(∃ K, bodyPre m K c) ⊢ wpc c loopProg fun _ => bodyPost m c := by
    iintro ⟨%K, H⟩
    iapply (loops_ok m K c fun _ => bodyPost m c) $$ H
    iintro H; iexact H
  refine hl.trans ?_
  show wpc c loopProg (fun _ => bodyPost m c) ⊢ wp frame (wpE (defs₀ (F := F)) 𝒱₀ (c : Thread nD τ) none) Set.univ
    (cc0_body (Memref.whole cc0_stg0_0) (Memref.isWhole_whole _) (Memref.whole main_arg1)
      (Memref.isWhole_whole _) (Memref.whole cc0_stg1_0) (Memref.isWhole_whole _)
      (Memref.whole cc0_scratch0) (Memref.isWhole_whole _) (Memref.whole cc0_scratch1)
      (Memref.isWhole_whole _) (Memref.whole cc0_scratch2) (Memref.isWhole_whole _)
      (Memref.whole cc0_scratch3) (Memref.isWhole_whole _) (Memref.whole cc0_scratch4)
      (Memref.isWhole_whole _) cc0_scratch5 cc0_scratch6 cc0_scratch7 cc0_scratch8 cc0_scratch9) _
  rw [body_eq_loops]
  unfold wpc
  iintro Hw
  iapply (wp_wand frame (wpE (defs₀ (F := F)) 𝒱₀ (c : Thread nD τ) none) Set.univ) $$ Hw
  iintro %u H
  iapply hout $$ H

/-! ## The launch's side conditions -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf cellsAll toksAll, 1))

theorem fund_all : (ownU u₀ : sProp 𝕄) ⊢ |={Set.univ}=> iprop(BI.own (EP (initOf (Pipeline.cells cfgs cellOf_inj)
    (Pipeline.launchToks cfgs cellOf_inj))) ∗ bigSep Finset.univ (G m)) := by
  unfold u₀
  iintro Hu
  ihave H := (ownU_pair _ _) $$ Hu
  icases H with ⟨HP, HX⟩
  have h : BI.own (EQ (F := F) (initOf cellsAll toksAll, 1)) ⊢ (|==> bigSep Finset.univ (G m) : sProp 𝕄) := fund m
  imod h $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  have h : Pipeline.unscopedRest (Ix := Unit) (Name := ℕ) (U := UU) (Lvl := ℕ) cfg0.spec c (fun b => m ((c : Thread nD τ).loc b)) ⊢ argW m c :=
    Entails.of_eq (unscopedRest0_eq c _)
  iintro ⟨Ha, Hl, Hc, -, HG⟩
  ihave Ha := h $$ Ha
  ihave Hc := (creds_intro (F := F) c) $$ Hc
  imodintro
  unfold start
  isplitl
  · isplitl [HG]; · iexact HG
    isplitl [Hc]; · iexact Hc
    isplitl [Hl] <;> iassumption
  · iempintro

theorem scr_eq (c : Dev nD) : (Pipeline.scopedRest (Ix := Unit) (Name := ℕ) (U := UU) (Lvl := ℕ) (Val := Elt F) cfg0.spec c : sProp 𝕄) = scr c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N)
      ⊢ iprop(iprop(unscopedSems0 c ∗ argW m c) ∗ Pipeline.ownSems0 osem c ∗ Pipeline.scopedRest cfg0.spec c) := by
  rw [show (dats m ρ 0 c).Φ (Fin.last cfg0.N) = Φ₁ m c from rfl, scr_eq]
  unfold Φ₁
  iintro ⟨Hz, Hw, Ha, Hr⟩
  ihave Hz := (sems_eq (F := F) c).2 $$ [Hz Hw]
  · isplitl [Hz] <;> iassumption
  icases Hz with ⟨Ho, Hu⟩
  isplitl [Hu Ha]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ (cut := 0) (by fin_cases w <;> fin_cases s <;> decide) (by
      rcases t with ⟨_ | _, ht⟩
      · exact above_O₀ c
      · exact above_zero 0)

/-- What is read of the memory at the end beside the windows' arrays. -/
def atEnd (c : Dev nD) (s : MemSt nD τ sig (Elt F)) : Prop :=
  (∀ sm : SemLoc sig, sm.isScoped .tc = false → s.sem ((c.tc : Thread nD τ), sm) = 0)
    ∧ s.mem ((c.tc : Thread nD τ).loc main_arg1) = m ((c.tc : Thread nD τ).loc main_arg1)

theorem end_read (c : Dev nD) (s' : Phys nD τ sig (Elt F)) :
    iprop(iprop(unscopedSems0 c ∗ argW m c) ∗ emp ∗ SI s') ⊢ |={Set.univ}=> iprop(⌜atEnd m c s'.mem⌝ ∗ SI s') := by
  unfold argW
  iintro ⟨⟨Hu, Ha⟩, -, HSI⟩
  ihave %h := (tcUnscoped_read c s') $$ [Hu HSI]
  · isplitl [Hu] <;> iassumption
  icombine HSI Ha gives %h'
  imodintro
  isplitr
  · ipureintro
    exact ⟨h, Buf.eq_of_forall_mem_univ h'⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c.tc : Thread nD τ).loc main_arg1) = m ((c.tc : Thread nD τ).loc main_arg1)

theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund_all m) (hglob := glob m)
    (hA := fun _ _ => rfl) (hpf := fun _ k => k.elim0)
    (X := start m) (Y := fun c => iprop(unscopedSems0 c ∗ argW m c)) (Z := fun _ => iprop(emp))
    (hX := start_intro m ρ) (hin := phi0_intro m ρ) (hout := phi1_exit m ρ)
    (QY := atEnd m) (hY := end_read m)
    (hQ := fun _ h hs => ⟨fun c => ⟨fun w => (h c).1 w, (h c).2.2.2⟩, sem_eq_zero hs fun c => (h c).2.2.1⟩)

/-- The kernel's run, from any memory with zero counters. -/
def Done (r : PUnit × MemSt nD τ sig (Elt F)) : Prop :=
  (∀ c : Dev nD, r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

theorem final_x (c : Dev nD) : finalA m ρ c (0 : Fin 2) = m ((c.tc : Thread nD τ).loc main_arg0) :=
  (dats (F := F) m ρ 0 c).arrAt_in (0 : Fin 2) rfl _

theorem final_out (c : Dev nD) : finalA m ρ c (1 : Fin 2) = outAt m c := by
  refine (dats (F := F) m ρ 0 c).arrAt_eq_of_after_last (1 : Fin 2) t0_0 (by decide +kernel) _ fun j => ?_
  rfl

theorem run_main : θ_run defs (onTc (τ := τ) (main (F := F))) ⟨m, fun _ => 0, ρ⟩ (Done m) :=
  (θ_run defs _ _).mono (fun _ h => ⟨fun c => ⟨((h.1 c).1 1).trans (final_out m ρ c), ((h.1 c).1 0).trans (final_x m ρ c), (h.1 c).2⟩, h.2⟩)
    (run_region m ρ)

end Cert.KernelIdeal.Gen
end
-- ==== Proof.Value.lean ====
module

public import proofs.«01_k».proof.Proof.Protocol
public import proofs.«01_k».proof.Proof.Gen.ReferenceIdeal.Run
public import Idealize.ShloMosaic.Lib.Layout
public import Idealize.ShloMosaic.Lib.IdealHost
public import Idealize.ShloMosaic.Lib.ValueIdx
public import Idealize.ShloMosaic.Lib.MatmulPlain
public import Idealize.ShloMosaic.Lib.StackMember
public import Idealize.ShloMosaic.Lib.Pipeline.Value

@[expose] public section

set_option maxRecDepth 8192

/-! The results over the extended reals: what the devices compute is the row blocks of what the
reference computes.

The accumulation adds the sixteen products of 256-wide blocks in the order the data arrive; the
reference's product is one sum of 4096 terms, which is the sum of the sixteen in any order. The
maximum over the devices' maxima is the maximum over all rows. The quantisation multiplies by
`127 / A` where the reference divides by `A / 127`; the two agree at every `A` a maximum of absolute
values can be, zero and infinity included. -/

noncomputable section

namespace Cert.KernelIdeal.Gen

open Idealize.ShloMosaic Idealize.ShloMosaic.ValueIdx
open Idealize.ShloMosaic.TcCoe
open scoped BigOperators

/-! ## Extended reals -/

theorem ofBits_127 : Ideal.ofBits .f32 0x42FE0000#32 = ((127 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- The fold of the maximum from minus infinity is the supremum. -/
theorem fold_max {ι : Type} [Fintype ι] (f : ι → EReal) (p : ι → Prop) [DecidablePred p] (hp : ∀ i, p i) :
    (Finset.univ.filter p).fold (FloatOps.maximumf (F := Ideal) (φ := .f32)) (Ideal.ofBits .f32 0xFF800000#32) f
      = ⨆ i, f i := by
  rw [ofBits_negInf, Finset.filter_true_of_mem fun i _ => hp i]
  exact Finset.sup_univ_eq_iSup f

/-- Scale, round and clip, then scale back: by the quotient either way round. -/
theorem quant (R C : EReal → EReal) (A y : EReal) (hA : 0 ≤ A) :
    C (R (y * Ideal.div ((127 : ℝ) : EReal) A)) * Ideal.div A ((127 : ℝ) : EReal)
      = C (R (Ideal.div y (Ideal.div A ((127 : ℝ) : EReal)))) * Ideal.div A ((127 : ℝ) : EReal) := by
  have h127 : ((127 : ℝ) : EReal) ≠ 0 := by norm_num
  have hi : (((127 : ℝ) : EReal))⁻¹ = ((127⁻¹ : ℝ) : EReal) := (EReal.coe_inv 127).symm
  have hs : Ideal.div A ((127 : ℝ) : EReal) = A * ((127⁻¹ : ℝ) : EReal) := by
    unfold Ideal.div; rw [if_neg h127, hi]
  rw [hs]
  induction A using EReal.rec with
  | bot => exact absurd hA (by simp)
  | top =>
    have ht : (⊤ : EReal) * ((127⁻¹ : ℝ) : EReal) = ⊤ := EReal.top_mul_coe_of_pos (by norm_num)
    rw [ht]
    simp [Ideal.div]
  | coe a =>
    rcases (EReal.coe_nonneg.mp hA).eq_or_lt with h | h
    · rw [← h]; simp
    · have ha : ((a : ℝ) : EReal) ≠ 0 := by exact_mod_cast h.ne'
      have hb : ((a : ℝ) : EReal) * ((127⁻¹ : ℝ) : EReal) ≠ 0 := by
        rw [← EReal.coe_mul]; exact_mod_cast (by positivity : a * 127⁻¹ ≠ 0)
      unfold Ideal.div
      rw [if_neg ha, if_neg hb, ← EReal.coe_mul, ← EReal.coe_inv, ← EReal.coe_inv, ← EReal.coe_mul,
        mul_inv, inv_inv, mul_comm (127 : ℝ)]

/-- A sum of 4096 terms by sixteen blocks of 256. -/
theorem sum_blocks (f : Fin 4096 → EReal) :
    ∑ j : Fin 16, ∑ k : Fin 256, f ⟨256 * j.val + k.val, row_lt j k⟩ = ∑ k, f k := by
  rw [← Fintype.sum_prod_type', ← Equiv.sum_comp (finProdFinEquiv (m := 16) (n := 256)) f]
  exact Finset.sum_congr rfl fun p _ => congrArg f (Fin.ext (Nat.add_comm _ _))

/-! ## The reference's terms -/

/-- The product's element at row `r` and column `l`. -/
def yAt (X : FVec Ideal ReferenceIdeal.S4096x4096 .f32) (W : FVec Ideal S4096x8192 .f32) (r : Fin 4096) (l : Fin 8192) : EReal :=
  ∑ k : Fin 4096, X (ix2 r k) * W (ix2 k l)

/-- The maximum of the product's absolute values. -/
def yMax (X : FVec Ideal ReferenceIdeal.S4096x4096 .f32) (W : FVec Ideal S4096x8192 .f32) : EReal :=
  ⨆ r : Fin 4096, ⨆ l : Fin 8192, max (yAt X W r l) (-(yAt X W r l))

/-- The maximum over a rank-two index set, by rows and columns. -/
theorem iSup_idx2 {n0 n1 : ℕ} (f : (⟨2, ![n0, n1]⟩ : Shape).Idx → EReal) :
    ⨆ i, f i = ⨆ a : Fin n0, ⨆ b : Fin n1, f (ix2 a b) := by
  rw [← idxEquiv2.symm.iSup_comp, iSup_prod]
  rfl

/-- An absolute value is not negative. -/
theorem abs_nonneg' (y : EReal) : 0 ≤ max y (-y) := by
  rcases le_total 0 y with h | h
  · exact h.trans (le_max_left _ _)
  · exact (EReal.neg_nonneg.mpr h).trans (le_max_right _ _)

theorem yMax_nonneg (X : FVec Ideal ReferenceIdeal.S4096x4096 .f32) (W : FVec Ideal S4096x8192 .f32) : 0 ≤ yMax X W :=
  (abs_nonneg' _).trans (le_iSup_of_le (0 : Fin 4096) (le_iSup (fun l : Fin 8192 => max (yAt X W 0 l) (-(yAt X W 0 l))) 0))

variable (m : (ℓ : Loc nD τ sig) → Buf (Elt Ideal) ℓ)

/-! ## The accumulation -/

/-- The window of the first argument is the whole of it. -/
theorem xstg_eq (c : Dev nD) : xstg m c = m ((c : Thread nD τ).loc main_arg0) := by
  funext i
  refine congrArg (m ((c : Thread nD τ).loc main_arg0)) (funext fun a => Fin.ext ?_)
  match a with
  | ⟨0, _⟩ => exact Pipeline.Window.rect_emb_val_of_index_zero win0_0 (0 : Fin 1) 0 rfl i
  | ⟨1, _⟩ => exact Pipeline.Window.rect_emb_val_of_index_zero win0_0 (0 : Fin 1) 1 rfl i

/-- The devices hold the column blocks of `X`, and `W`. -/
def Held (X : FVec Ideal ReferenceIdeal.S4096x4096 .f32) (W : FVec Ideal S4096x8192 .f32) : Prop :=
  ∀ c : Dev nD, m ((c : Thread nD τ).loc main_arg0) = Layout.block ⟨2, ![4096, 256]⟩ ⟨2, ![4096, 4096]⟩ 1 16 c X
    ∧ m ((c : Thread nD τ).loc main_arg1) = W

variable {m} {X : FVec Ideal ReferenceIdeal.S4096x4096 .f32} {W : FVec Ideal S4096x8192 .f32}

theorem castX_apply (h : Held m X W) (c : Dev nD) (r : Fin 4096) (k : Fin 256) :
    castX m c (ix2 r k) = X (ix2 r ⟨256 * c.val + k.val, row_lt c k⟩) := by
  have e : castX m c = xstg m c := by
    unfold castX k0_pay2
    simp only [shapeCast_self]
    rfl
  rw [e, xstg_eq, (h c).1, Layout.block_apply]
  refine congrArg X (funext fun a => Fin.ext ?_)
  match a with
  | ⟨0, _⟩ => rfl
  | ⟨1, _⟩ => exact congrArg (· + k.val) (Nat.mul_comm c.val 256)

/-- What one step adds at row `i` and column `l`: the product over block `j`. -/
def stepSum (X : FVec Ideal ReferenceIdeal.S4096x4096 .f32) (W : FVec Ideal S4096x8192 .f32) (c : Dev nD) (i : Fin 256) (l : Fin 8192) (j : Dev nD) : EReal :=
  ∑ k : Fin 256, X (ix2 ⟨256 * c.val + i.val, row_lt c i⟩ ⟨256 * j.val + k.val, row_lt j k⟩)
    * W (ix2 ⟨256 * j.val + k.val, row_lt j k⟩ l)

theorem dot_plain : dot_S256x256_S256x8192_S256x8192_1_0_0_1_n_n = DotDims.plain 256 256 8192 := rfl

/-- A step's product at an index. -/
theorem step_apply (h : Held m X W) (c : Dev nD) (d : Fin 16) (i : Fin 256) (l : Fin 8192) :
    k0_pay5 (k0_pay4 (gVal m c d)) (wVal m c d) (ix2 i l) = stepSum X W c i l (back c d) := by
  show FloatOps.matmul dot_S256x256_S256x8192_S256x8192_1_0_0_1_n_n none (k0_pay4 (gVal m c d))
    (shapeCast S256x8192 (wVal m c d) shapeCasts_S1x256x8192_S256x8192) (constant (F := Ideal) S256x8192 .f32 0x00000000#32) (ix2 i l) = _
  rw [dot_plain, Ideal.matmul_plain_apply]
  rw [constant_apply, Ideal.ofBits_zero_f32, zero_add]
  refine Finset.sum_congr rfl fun k _ => ?_
  have eg : k0_pay4 (gVal m c d) (ix2 i k) = X (ix2 ⟨256 * c.val + i.val, row_lt c i⟩ ⟨256 * (back c d).val + k.val, row_lt _ k⟩) := by
    show shapeCast S256x256 (gVal m c d) shapeCasts_S1x256x256_S256x256 (ix2 i k) = _
    rw [shapeCast_dropUnit_apply ![256, 256]]
    exact castX_apply h (back c d) _ k
  have ew : shapeCast S256x8192 (wVal m c d) shapeCasts_S1x256x8192_S256x8192 (ix2 k l)
      = W (ix2 ⟨256 * (back c d).val + k.val, row_lt _ k⟩ l) := by
    rw [shapeCast_dropUnit_apply ![256, 8192]]
    exact congrFun (h c).2 _
  rw [eg, ew]

theorem acc_apply (h : Held m X W) (c : Dev nD) (i : Fin 256) (l : Fin 8192) (n : ℕ) :
    acc m c n (ix2 i l) = ∑ t ∈ Finset.range (n + 1), stepSum X W c i l (back c (ordN t)) := by
  induction n with
  | zero => rw [Finset.sum_range_one]; exact step_apply h c 0 i l
  | succ n ih =>
    rw [Finset.sum_range_succ, ← ih]
    show addf (shapeCast S256x8192 (acc m c n) shapeCasts_S256x8192_S256x8192)
      (k0_pay5 (k0_pay4 (gVal m c (ordN (n + 1)))) (wVal m c (ordN (n + 1)))) (ix2 i l) = _
    rw [shapeCast_self, addf_apply, step_apply h]

theorem order_bij (c : Dev nD) : Function.Bijective fun t : Fin 16 => back c (ordI t) := by
  revert c; decide

/-- The finished accumulation is the product's row block. -/
theorem acc_final (h : Held m X W) (c : Dev nD) (i : Fin 256) (l : Fin 8192) :
    acc m c 15 (ix2 i l) = yAt X W ⟨256 * c.val + i.val, row_lt c i⟩ l := by
  rw [acc_apply h, Finset.sum_range]
  have e : ∀ t : Fin 16, ordN t.val = ordI t := fun t => congrArg ordI (Fin.ext (Nat.mod_eq_of_lt t.isLt))
  simp only [e]
  refine (Function.Bijective.sum_comp (order_bij c) (stepSum X W c i l)).trans ?_
  exact sum_blocks fun k => X (ix2 ⟨256 * c.val + i.val, row_lt c i⟩ k) * W (ix2 k l)

/-! ## The maxima -/

/-- A maximum over all of an array, from minus infinity, whatever shapes it is passed through. -/
theorem max_all {s s' : Shape} (v : FVec Ideal s .f32) (hc : s.ShapeCasts s') {axes : List (Fin s'.rank)} (hr : s'.Reduces axes S1)
    (h1 : S1.ShapeCasts S1x1x1) (hp hφ hacc) :
    extractAt ![0, 0, 0] (shapeCast S1x1x1 (multiReduction .maximumf axes S1 (shapeCast s' v hc) 0xFF800000#32 hr hφ hacc) h1) hp
      = ⨆ i, v i := by
  unfold extractAt
  show multiReduction .maximumf axes S1 (shapeCast s' v hc) 0xFF800000#32 hr hφ hacc _ = _
  rw [multiReduction_maximumf_eq_fold]
  refine (fold_max _ _ fun i => ?_).trans ?_
  · exact funext fun a => match a with | ⟨0, _⟩ => Subsingleton.elim (α := Fin 1) _ _
  · exact (Shape.reshapeEquiv _).iSup_comp (g := v)

theorem addf_at {F : FTy → Type} [FloatOps F] {s : Shape} {φ : FTy} (a b : FVec F s φ) (i : s.Idx) :
    addf a b i = FloatOps.addf (a i) (b i) := rfl

theorem zero_addf (x : Ideal .f32) : FloatOps.addf (Scalar.ofBits (F := Ideal) .f32 0x00000000#32) x = x := by
  show Ideal.ofBits .f32 0x00000000#32 + (x : EReal) = x
  rw [Ideal.ofBits_zero_f32, zero_add]

/-- A row of maxima holds the maximum of the absolute values. -/
theorem rowMax_apply (o : FVec Ideal S256x8192 .f32) (j : S1x128.Idx) :
    k0_pay31 (k0_pay30 o) j = ⨆ i, max (o i) (-(o i)) := by
  unfold k0_pay31 k0_pay30
  simp only [shapeCast_self]
  rw [addf_at, broadcast_apply, broadcast_apply, zero_addf]
  refine ((max_all (absf o) shapeCasts_S256x8192_S1x256x8192 reduces_S1x256x8192_S1 _ _ _ _).trans ?_)
  exact iSup_congr fun i => Ideal.absf_def _

theorem maxRow_apply (h : Held m X W) (c : Dev nD) (l : Fin 128) :
    maxRow m c (ix2 ⟨0, Nat.one_pos⟩ l)
      = ⨆ i : Fin 256, ⨆ n : Fin 8192, max (yAt X W ⟨256 * c.val + i.val, row_lt c i⟩ n) (-(yAt X W ⟨256 * c.val + i.val, row_lt c i⟩ n)) := by
  rw [maxRow, rowMax_apply, iSup_idx2]
  simp only [acc_final h]

/-- The maximum over the devices' rows of maxima is the maximum over all the product. -/
theorem max_devices (h : Held m X W) : k0_pay32 (aAll m) = yMax X W := by
  unfold k0_pay32
  refine (max_all _ _ _ _ _ _ _).trans ?_
  rw [iSup_idx2]
  have e : ∀ (c : Fin 16) (l : Fin 128), aAll m (ix2 c l) = maxRow m c (ix2 ⟨0, Nat.one_pos⟩ l) := fun _ _ => rfl
  simp only [e, maxRow_apply h, iSup_const]
  unfold yMax
  rw [← (finProdFinEquiv (m := 16) (n := 256)).iSup_comp, iSup_prod]
  refine iSup_congr fun c => iSup_congr fun i => ?_
  rw [show (⟨256 * c.val + i.val, row_lt c i⟩ : Fin 4096) = finProdFinEquiv (c, i) from Fin.ext (Nat.add_comm _ _)]

/-! ## The results -/

/-- Clip to 127 either side. -/
def clip (q : EReal) : EReal := min (Ideal.ofBits .f32 0x42FE0000#32) (max (Ideal.ofBits .f32 0xC2FE0000#32) q)

/-- Quantise and scale back, multiplying by the inverse scale; -/
def byMul (A y : EReal) : EReal :=
  clip (Ideal.liftRound Ideal.roundHalfEven (y * Ideal.div (Ideal.ofBits .f32 0x42FE0000#32) A)) * Ideal.div A (Ideal.ofBits .f32 0x42FE0000#32)

/-- and dividing by the scale. -/
def byDiv (A y : EReal) : EReal :=
  clip (Ideal.liftRound Ideal.roundHalfEven (Ideal.div y (Ideal.div A (Ideal.ofBits .f32 0x42FE0000#32)))) * Ideal.div A (Ideal.ofBits .f32 0x42FE0000#32)

theorem byMul_eq (A y : EReal) (hA : 0 ≤ A) : byMul A y = byDiv A y := by
  unfold byMul byDiv
  rw [ofBits_127]
  exact quant _ clip A y hA

theorem kernel_at (a : FVec Ideal S16x128 .f32) (o : FVec Ideal S256x8192 .f32) (i : S256x8192.Idx) :
    k0_pay1 (F := Ideal) (k0_pay33 a) (k0_pay34 a o) i = byMul (k0_pay32 (F := Ideal) a) (o i) := by
  unfold k0_pay1 k0_pay33 k0_pay34
  simp only [shapeCast_self]
  generalize k0_pay32 (F := Ideal) a = A
  rfl

/-- The kernel's result at an index. -/
theorem outAt_apply (h : Held m X W) (c : Dev nD) (i : Fin 256) (l : Fin 8192) :
    outAt m c (ix2 i l) = byMul (yMax X W) (yAt X W ⟨256 * c.val + i.val, row_lt c i⟩ l) := by
  rw [← max_devices h, ← acc_final h]
  exact kernel_at _ _ _

section Reference

open Cert.ReferenceIdeal Cert.ReferenceIdeal.Gen

/-- The reference's product, and its scale. -/
abbrev refY (X : FVec Ideal S4096x4096 .f32) (W : FVec Ideal S4096x8192 .f32) : FVec Ideal S4096x8192 .f32 :=
  Host.dotGeneral dot_S4096x4096_S4096x8192_S4096x8192_1_0_0_1_n_n none X W
abbrev refScale (y : FVec Ideal S4096x8192 .f32) : FVec Ideal S_ .f32 :=
  Host.divf (Host.reduce FloatOps.maximumf (Host.absf y) (constant S_ .f32 0xFF800000#32) reducesTo_S4096x8192_S_d0_1 h_S_) (constant S_ .f32 0x42FE0000#32)

/-- Its result. -/
abbrev refOut (X : FVec Ideal S4096x4096 .f32) (W : FVec Ideal S4096x8192 .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (refY X W) (broadcastInDim S4096x8192 ![] bcast_S_S4096x8192 (refScale (refY X W)))))))
    (broadcastInDim S4096x8192 ![] bcast_S_S4096x8192 (refScale (refY X W)))

theorem refdot_plain : dot_S4096x4096_S4096x8192_S4096x8192_1_0_0_1_n_n = DotDims.plain 4096 4096 8192 := rfl

theorem refY_apply (X : FVec Ideal S4096x4096 .f32) (W : FVec Ideal S4096x8192 .f32) (r : Fin 4096) (l : Fin 8192) :
    refY X W (ix2 r l) = yAt X W r l := by
  unfold refY
  rw [refdot_plain]
  exact StackMember.dotGeneral_plain_apply none X W r l

theorem refMax (y : FVec Ideal S4096x8192 .f32) :
    Host.reduce FloatOps.maximumf (Host.absf y) (constant S_ .f32 0xFF800000#32) reducesTo_S4096x8192_S_d0_1 h_S_ ix0
      = ⨆ i, max (y i) (-(y i)) := by
  rw [Host.reduce_eq_fold]
  exact fold_max (Host.absf y) _ fun i => funext fun a => a.elim0

theorem ref_at {T : Shape} (y : FVec Ideal T .f32) (s : FVec Ideal S_ .f32) (hb : S_.BroadcastsInDim T ![]) (A : EReal)
    (hs : s ix0 = Ideal.div A (Ideal.ofBits .f32 0x42FE0000#32)) (i : T.Idx) :
    mulf (minimumf (broadcastInDim T ![] hb (id (constant S_ .f32 0x42FE0000#32)))
      (maximumf (broadcastInDim T ![] hb (id (constant S_ .f32 0xC2FE0000#32)))
        (Host.roundeven (Host.divf y (broadcastInDim T ![] hb s))))) (broadcastInDim T ![] hb s) i = byDiv A (y i) := by
  have e : broadcastInDim T ![] hb s i = Ideal.div A (Ideal.ofBits .f32 0x42FE0000#32) := (broadcastInDim_scalar_apply hb s i).trans hs
  have hr : Host.roundeven (Host.divf y (broadcastInDim T ![] hb s)) i
      = Ideal.liftRound Ideal.roundHalfEven (Ideal.div (y i) (broadcastInDim T ![] hb s i)) := rfl
  rw [mulf_apply, minimumf_apply, maximumf_apply, broadcastInDim_scalar_apply, broadcastInDim_scalar_apply, hr, e]
  rfl

/-- The reference's result at an index. -/
theorem refOut_apply (X : FVec Ideal S4096x4096 .f32) (W : FVec Ideal S4096x8192 .f32) (r : Fin 4096) (l : Fin 8192) :
    refOut X W (ix2 r l) = byDiv (yMax X W) (yAt X W r l) := by
  rw [← refY_apply]
  refine ref_at (refY X W) (refScale (refY X W)) bcast_S_S4096x8192 (yMax X W) ?_ (ix2 r l)
  unfold refScale
  rw [hostDivf_apply, refMax, iSup_idx2]
  simp only [refY_apply]
  rfl

end Reference

/-- Each device's result is its row block of the reference's result. -/
theorem outAt_eq (h : Held m X W) (c : Dev nD) :
    outAt m c = Layout.block ⟨2, ![256, 8192]⟩ ⟨2, ![4096, 8192]⟩ 0 16 c (refOut X W) := by
  funext i
  have e : i = ix2 (n0 := 256) (n1 := 8192) (i 0) (i 1) := eq_ix2 i
  refine (congrArg (outAt m c) e).trans ((outAt_apply h c (i 0) (i 1)).trans ((byMul_eq _ _ (yMax_nonneg X W)).trans
    ((refOut_apply X W _ (i 1)).symm.trans ?_)))
  refine congrArg (refOut X W) (funext fun a => Fin.ext ?_)
  match a with
  | ⟨0, _⟩ => exact congrArg (· + (i 0).val) (Nat.mul_comm 256 c.val)
  | ⟨1, _⟩ => rfl

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem Cert.Kernel

/-- The two readings of the kernel are of one text. -/
theorem body_table {F : FTy → Type} [FloatOps F] : Cert.Kernel.defs₀ (F := F) = Cert.KernelIdeal.defs₀ := by
  refine congrArg Defs.onTc (funext fun l => ?_)
  match l with
  | ⟨0, h⟩ => exact funext fun a => rfl
theorem table {F : FTy → Type} [FloatOps F] : Cert.Kernel.defs (F := F) = Cert.KernelIdeal.defs := by
  unfold Cert.Kernel.defs Cert.KernelIdeal.defs
  exact congrArg _ body_table

/-- The kernel's run, read at the arguments and the counters. -/
theorem frame_any {F : FTy → Type} [FloatOps F] (m : (ℓ : Loc KernelIdeal.nD KernelIdeal.τ KernelIdeal.sig) → Buf (Elt F) ℓ)
    (ρ : Dev KernelIdeal.nD → PrngReg) {D : Defs KernelIdeal.nD KernelIdeal.τ KernelIdeal.sig (Elt F)
      (Pipeline.Sig KernelIdeal.Λ₀ (Fin 1) fun p => (KernelIdeal.pcfgs (F := F) p).Adm)} (hD : D = Cert.KernelIdeal.defs) :
    θ_run D (onTc (τ := KernelIdeal.τ) (Cert.KernelIdeal.main (F := F))) ⟨m, fun _ => 0, ρ⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 :=
  hD ▸ (θ_run Cert.KernelIdeal.defs _ _).mono (fun _ h => ⟨fun c => (h.1 c).2, h.2⟩) (Cert.KernelIdeal.Gen.run_main m ρ)

theorem frame_kernel : Cert.quiescent_Kernel := fun m ρ _ => frame_any (F := Bits) m ρ table
theorem frame_ideal : Cert.quiescent_KernelIdeal := fun m ρ _ => frame_any (F := Ideal) m ρ rfl

/-- The reference declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs end at the reference's result: the devices at its row blocks. -/
theorem algebraic : Cert.algebraic_KernelIdeal_ReferenceIdeal := fun m g m' g' _ hx =>
  ⟨Cert.KernelIdeal.Gen.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.Gen.outAt_eq (m := m) hx c), (h.1 c).2⟩)
      (Cert.KernelIdeal.Gen.run_main m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_ref, trivial, algebraic⟩

end Cert.Proof

end
